-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x10 : Shape := ⟨2, ![32768, 10]⟩
abbrev S32768 : Shape := ⟨1, ![32768]⟩
abbrev S10x10 : Shape := ⟨2, ![10, 10]⟩
abbrev S10 : Shape := ⟨1, ![10]⟩
abbrev S100 : Shape := ⟨1, ![100]⟩
abbrev S_ : Shape := ⟨0, ![]⟩
abbrev S4 : Shape := ⟨1, ![4]⟩
abbrev S224 : Shape := ⟨1, ![224]⟩
abbrev S224x1 : Shape := ⟨2, ![224, 1]⟩
abbrev S224x16 : Shape := ⟨2, ![224, 16]⟩
abbrev S3584 : Shape := ⟨1, ![3584]⟩
abbrev S327680 : Shape := ⟨1, ![327680]⟩
abbrev S10240 : Shape := ⟨1, ![10240]⟩
abbrev S1024 : Shape := ⟨1, ![1024]⟩
abbrev S16 : Shape := ⟨1, ![16]⟩

abbrev nBuf : Table → Nat
  | .hbm => 17
  | .local .scVector .vmem => 4
  | _ => 0

abbrev bufTy : (tb : Table) → Fin (nBuf tb) → BufTy
  | .hbm, ⟨0, _⟩ => ⟨S32768x10, .f32⟩
  | .hbm, ⟨1, _⟩ => ⟨S32768, .i32⟩
  | .hbm, ⟨2, _⟩ => ⟨S10x10, .f32⟩
  | .hbm, ⟨3, _⟩ => ⟨S10, .f32⟩
  | .hbm, ⟨4, _⟩ => ⟨S10x10, .f32⟩
  | .hbm, ⟨5, _⟩ => ⟨S10, .f32⟩
  | .hbm, ⟨6, _⟩ => ⟨S100, .f32⟩
  | .hbm, ⟨7, _⟩ => ⟨S100, .f32⟩
  | .hbm, ⟨8, _⟩ => ⟨S_, .f32⟩
  | .hbm, ⟨9, _⟩ => ⟨S4, .f32⟩
  | .hbm, ⟨10, _⟩ => ⟨S224, .f32⟩
  | .hbm, ⟨11, _⟩ => ⟨S224x1, .f32⟩
  | .hbm, ⟨12, _⟩ => ⟨S224x16, .f32⟩
  | .hbm, ⟨13, _⟩ => ⟨S3584, .f32⟩
  | .hbm, ⟨14, _⟩ => ⟨S327680, .f32⟩
  | .hbm, ⟨15, _⟩ => ⟨S327680, .f32⟩
  | .hbm, ⟨16, _⟩ => ⟨S32768x10, .f32⟩
  | .local .scVector .vmem, ⟨0, _⟩ => ⟨S10240, .f32⟩
  | .local .scVector .vmem, ⟨1, _⟩ => ⟨S1024, .i32⟩
  | .local .scVector .vmem, ⟨2, _⟩ => ⟨S10240, .f32⟩
  | .local .scVector .vmem, ⟨3, _⟩ => ⟨S3584, .f32⟩
  | _, _ => ⟨S32768x10, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v7_scv : Ref sig .scVector := ⟨.hbm, 14, rfl⟩
abbrev main_arg1_scv : Ref sig .scVector := ⟨.hbm, 1, rfl⟩
abbrev main_v6_scv : Ref sig .scVector := ⟨.hbm, 13, rfl⟩
abbrev main_v8_scv : Ref sig .scVector := ⟨.hbm, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c10_i32 : BitVec 32 := 10#32
  let v3 : BitVec 32 := Scalar.muli v2 c10_i32
  ![v3.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
@[reducible] def k0_t1_loop : Scf.Loop 32 :=
  let c0_i32_1 : BitVec 32 := 0#32
  let c64_i32 : BitVec 32 := 64#32
  let v7 : BitVec 32 := Scalar.addi c0_i32_1 c64_i32
  let c1_i32 : BitVec 32 := 1#32
  ⟨c0_i32_1, v7, c1_i32⟩
def k0_off3 (k0_t1 : Fin k0_t1_loop.trips) : Fin 1 → Nat :=
  let c0_i32_1 : BitVec 32 := 0#32
  let c1_i32 : BitVec 32 := 1#32
  let arg10 : BitVec 32 := Scf.iv c0_i32_1 c1_i32 k0_t1
  let c16_i32 : BitVec 32 := 16#32
  let v9 : BitVec 32 := Scalar.muli arg10 c16_i32
  let v10 : Index := Scalar.indexCast v9
  ![v10.toNat]

def k0_chk1 (v17 : IVec S16 32) : Prop :=
  (∀ a x, ((![v17] : Fin 1 → IVec S16 32) a x).toNat < S10240.size a)
theorem k0_idx1_inb : ∀ (v17 : IVec S16 32) (k0_hw1 : k0_chk1 v17), ∀ a x, ((![v17] : Fin 1 → IVec S16 32) a x).toNat < S10240.size a := fun v17 k0_hw1 => k0_hw1

def k0_chk2 (v21 : IVec S16 32) : Prop :=
  (∀ a x, ((![v21] : Fin 1 → IVec S16 32) a x).toNat < S10240.size a)
theorem k0_idx2_inb : ∀ (v21 : IVec S16 32) (k0_hw2 : k0_chk2 v21), ∀ a x, ((![v21] : Fin 1 → IVec S16 32) a x).toNat < S10240.size a := fun v21 k0_hw2 => k0_hw2

def k0_chk3 (v25 : IVec S16 32) : Prop :=
  (∀ a x, ((![v25] : Fin 1 → IVec S16 32) a x).toNat < S10240.size a)
theorem k0_idx3_inb : ∀ (v25 : IVec S16 32) (k0_hw3 : k0_chk3 v25), ∀ a x, ((![v25] : Fin 1 → IVec S16 32) a x).toNat < S10240.size a := fun v25 k0_hw3 => k0_hw3

def k0_chk4 (v29 : IVec S16 32) : Prop :=
  (∀ a x, ((![v29] : Fin 1 → IVec S16 32) a x).toNat < S10240.size a)
theorem k0_idx4_inb : ∀ (v29 : IVec S16 32) (k0_hw4 : k0_chk4 v29), ∀ a x, ((![v29] : Fin 1 → IVec S16 32) a x).toNat < S10240.size a := fun v29 k0_hw4 => k0_hw4

def k0_chk5 (v33 : IVec S16 32) : Prop :=
  (∀ a x, ((![v33] : Fin 1 → IVec S16 32) a x).toNat < S10240.size a)
theorem k0_idx5_inb : ∀ (v33 : IVec S16 32) (k0_hw5 : k0_chk5 v33), ∀ a x, ((![v33] : Fin 1 → IVec S16 32) a x).toNat < S10240.size a := fun v33 k0_hw5 => k0_hw5

def k0_chk6 (v37 : IVec S16 32) : Prop :=
  (∀ a x, ((![v37] : Fin 1 → IVec S16 32) a x).toNat < S10240.size a)
theorem k0_idx6_inb : ∀ (v37 : IVec S16 32) (k0_hw6 : k0_chk6 v37), ∀ a x, ((![v37] : Fin 1 → IVec S16 32) a x).toNat < S10240.size a := fun v37 k0_hw6 => k0_hw6

def k0_chk7 (v41 : IVec S16 32) : Prop :=
  (∀ a x, ((![v41] : Fin 1 → IVec S16 32) a x).toNat < S10240.size a)
theorem k0_idx7_inb : ∀ (v41 : IVec S16 32) (k0_hw7 : k0_chk7 v41), ∀ a x, ((![v41] : Fin 1 → IVec S16 32) a x).toNat < S10240.size a := fun v41 k0_hw7 => k0_hw7

def k0_chk8 (v45 : IVec S16 32) : Prop :=
  (∀ a x, ((![v45] : Fin 1 → IVec S16 32) a x).toNat < S10240.size a)
theorem k0_idx8_inb : ∀ (v45 : IVec S16 32) (k0_hw8 : k0_chk8 v45), ∀ a x, ((![v45] : Fin 1 → IVec S16 32) a x).toNat < S10240.size a := fun v45 k0_hw8 => k0_hw8

def k0_chk9 (v49 : IVec S16 32) : Prop :=
  (∀ a x, ((![v49] : Fin 1 → IVec S16 32) a x).toNat < S10240.size a)
theorem k0_idx9_inb : ∀ (v49 : IVec S16 32) (k0_hw9 : k0_chk9 v49), ∀ a x, ((![v49] : Fin 1 → IVec S16 32) a x).toNat < S10240.size a := fun v49 k0_hw9 => k0_hw9

def k0_chk10 (v53 : IVec S16 32) : Prop :=
  (∀ a x, ((![v53] : Fin 1 → IVec S16 32) a x).toNat < S10240.size a)
theorem k0_idx10_inb : ∀ (v53 : IVec S16 32) (k0_hw10 : k0_chk10 v53), ∀ a x, ((![v53] : Fin 1 → IVec S16 32) a x).toNat < S10240.size a := fun v53 k0_hw10 => k0_hw10

def k0_chk11 (v120 : IVec S16 32) : Prop :=
  (∀ a x, ((![v120] : Fin 1 → IVec S16 32) a x).toNat < S10240.size a)
theorem k0_idx11_inb : ∀ (v120 : IVec S16 32) (k0_hw11 : k0_chk11 v120), ∀ a x, ((![v120] : Fin 1 → IVec S16 32) a x).toNat < S10240.size a := fun v120 k0_hw11 => k0_hw11

def k0_chk12 (v186 : IVec S16 32) : Prop :=
  (∀ a x, ((![v186] : Fin 1 → IVec S16 32) a x).toNat < S10240.size a)
theorem k0_idx12_inb : ∀ (v186 : IVec S16 32) (k0_hw12 : k0_chk12 v186), ∀ a x, ((![v186] : Fin 1 → IVec S16 32) a x).toNat < S10240.size a := fun v186 k0_hw12 => k0_hw12

def k0_chk13 (v252 : IVec S16 32) : Prop :=
  (∀ a x, ((![v252] : Fin 1 → IVec S16 32) a x).toNat < S10240.size a)
theorem k0_idx13_inb : ∀ (v252 : IVec S16 32) (k0_hw13 : k0_chk13 v252), ∀ a x, ((![v252] : Fin 1 → IVec S16 32) a x).toNat < S10240.size a := fun v252 k0_hw13 => k0_hw13

def k0_chk14 (v318 : IVec S16 32) : Prop :=
  (∀ a x, ((![v318] : Fin 1 → IVec S16 32) a x).toNat < S10240.size a)
theorem k0_idx14_inb : ∀ (v318 : IVec S16 32) (k0_hw14 : k0_chk14 v318), ∀ a x, ((![v318] : Fin 1 → IVec S16 32) a x).toNat < S10240.size a := fun v318 k0_hw14 => k0_hw14

def k0_chk15 (v384 : IVec S16 32) : Prop :=
  (∀ a x, ((![v384] : Fin 1 → IVec S16 32) a x).toNat < S10240.size a)
theorem k0_idx15_inb : ∀ (v384 : IVec S16 32) (k0_hw15 : k0_chk15 v384), ∀ a x, ((![v384] : Fin 1 → IVec S16 32) a x).toNat < S10240.size a := fun v384 k0_hw15 => k0_hw15

def k0_chk16 (v450 : IVec S16 32) : Prop :=
  (∀ a x, ((![v450] : Fin 1 → IVec S16 32) a x).toNat < S10240.size a)
theorem k0_idx16_inb : ∀ (v450 : IVec S16 32) (k0_hw16 : k0_chk16 v450), ∀ a x, ((![v450] : Fin 1 → IVec S16 32) a x).toNat < S10240.size a := fun v450 k0_hw16 => k0_hw16

def k0_chk17 (v516 : IVec S16 32) : Prop :=
  (∀ a x, ((![v516] : Fin 1 → IVec S16 32) a x).toNat < S10240.size a)
theorem k0_idx17_inb : ∀ (v516 : IVec S16 32) (k0_hw17 : k0_chk17 v516), ∀ a x, ((![v516] : Fin 1 → IVec S16 32) a x).toNat < S10240.size a := fun v516 k0_hw17 => k0_hw17

def k0_chk18 (v582 : IVec S16 32) : Prop :=
  (∀ a x, ((![v582] : Fin 1 → IVec S16 32) a x).toNat < S10240.size a)
theorem k0_idx18_inb : ∀ (v582 : IVec S16 32) (k0_hw18 : k0_chk18 v582), ∀ a x, ((![v582] : Fin 1 → IVec S16 32) a x).toNat < S10240.size a := fun v582 k0_hw18 => k0_hw18

def k0_chk19 (v648 : IVec S16 32) : Prop :=
  (∀ a x, ((![v648] : Fin 1 → IVec S16 32) a x).toNat < S10240.size a)
theorem k0_idx19_inb : ∀ (v648 : IVec S16 32) (k0_hw19 : k0_chk19 v648), ∀ a x, ((![v648] : Fin 1 → IVec S16 32) a x).toNat < S10240.size a := fun v648 k0_hw19 => k0_hw19

def k0_chk20 (v714 : IVec S16 32) : Prop :=
  (∀ a x, ((![v714] : Fin 1 → IVec S16 32) a x).toNat < S10240.size a)
theorem k0_idx20_inb : ∀ (v714 : IVec S16 32) (k0_hw20 : k0_chk20 v714), ∀ a x, ((![v714] : Fin 1 → IVec S16 32) a x).toNat < S10240.size a := fun v714 k0_hw20 => k0_hw20
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x10 : Shape := ⟨2, ![32768, 10]⟩
abbrev S32768 : Shape := ⟨1, ![32768]⟩
abbrev S10x10 : Shape := ⟨2, ![10, 10]⟩
abbrev S10 : Shape := ⟨1, ![10]⟩
abbrev S1x10 : Shape := ⟨2, ![1, 10]⟩
abbrev S_ : Shape := ⟨0, ![]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x10, .f32⟩
  | .hbm, ⟨1, _⟩ => ⟨S32768, .i32⟩
  | .hbm, ⟨2, _⟩ => ⟨S10x10, .f32⟩
  | .hbm, ⟨3, _⟩ => ⟨S10, .f32⟩
  | .hbm, ⟨4, _⟩ => ⟨S10x10, .f32⟩
  | .hbm, ⟨5, _⟩ => ⟨S10, .f32⟩
  | .hbm, ⟨6, _⟩ => ⟨S10x10, .f32⟩
  | .hbm, ⟨7, _⟩ => ⟨S32768x10, .f32⟩
  | .hbm, ⟨8, _⟩ => ⟨S1x10, .f32⟩
  | .hbm, ⟨9, _⟩ => ⟨S32768x10, .f32⟩
  | .hbm, ⟨10, _⟩ => ⟨S32768x10, .f32⟩
  | .hbm, ⟨11, _⟩ => ⟨S10x10, .f32⟩
  | .hbm, ⟨12, _⟩ => ⟨S32768x10, .f32⟩
  | .hbm, ⟨13, _⟩ => ⟨S1x10, .f32⟩
  | .hbm, ⟨14, _⟩ => ⟨S32768x10, .f32⟩
  | .hbm, ⟨15, _⟩ => ⟨S32768x10, .f32⟩
  | .hbm, ⟨16, _⟩ => ⟨S_, .i32⟩
  | .hbm, ⟨17, _⟩ => ⟨S32768, .i32⟩
  | .hbm, ⟨18, _⟩ => ⟨S32768, .i1⟩
  | .hbm, ⟨19, _⟩ => ⟨S32768x1, .i1⟩
  | .hbm, ⟨20, _⟩ => ⟨S32768x10, .i1⟩
  | .hbm, ⟨21, _⟩ => ⟨S32768x10, .f32⟩
  | _, _ => ⟨S32768x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Rows.lean ====
/-
  What the kernel computes, word by word, over any float instance: the ten outputs of one token from its ten inputs, its route word
  and the weights (`outVal`), laid out in rows of ten (`rowsOut`); and what a scatter leaves when no two lanes name one word.
-/
module

public import Idealize.ShloMosaic.Lib.SparseCore.Ops

@[expose] public section

noncomputable section

namespace Cert.Proof.Rows

open Idealize.ShloMosaic Idealize.SL.Sem

/-! ## Words of a rank-one array -/

/-- Word `n` of an array of `N`, as a multi-index (taken modulo `N`, so that no bound is carried). -/
def at1 (N : ℕ) [NeZero N] (n : ℕ) : (⟨1, ![N]⟩ : Shape).Idx := fun a => match a with | 0 => Fin.ofNat N n

/-- What an array of `N` words holds at word `n`. -/
def rd {A : Type} {N : ℕ} [NeZero N] (f : (⟨1, ![N]⟩ : Shape).Idx → A) (n : ℕ) : A := f (at1 N n)

theorem idx_ext {N : ℕ} {i j : (⟨1, ![N]⟩ : Shape).Idx} (h : (i 0).val = (j 0).val) : i = j := by
  funext a
  match a with
  | 0 => exact Fin.ext h

theorem at1_val {N : ℕ} [NeZero N] {n : ℕ} (h : n < N) : ((at1 N n) 0).val = n := Nat.mod_eq_of_lt h

theorem rd_eq {A : Type} {N : ℕ} [NeZero N] (f : (⟨1, ![N]⟩ : Shape).Idx → A) {i : (⟨1, ![N]⟩ : Shape).Idx} {n : ℕ} (h : (i 0).val = n) :
    f i = rd f n := congrArg f (idx_ext (h.trans (at1_val (h ▸ (i 0).isLt)).symm))

/-! ## One token -/

section Value

variable {F : FTy → Type} [FloatOps F]

/-- `x 0 * w 0 + … + x k * w k`, added left to right. -/
def dot (x w : ℕ → F .f32) : ℕ → F .f32
  | 0 => FloatOps.mulf (x 0) (w 0)
  | k + 1 => FloatOps.addf (dot x w k) (FloatOps.mulf (x (k + 1)) (w (k + 1)))

/-- Output `j` of a token of inputs `x` and route word `r`: expert one's where the route is zero, expert two's elsewhere. The weights
    `w`: ten rows of expert one's, its ten biases, ten rows of expert two's, its ten biases. -/
def outVal (x : ℕ → F .f32) (r : BitVec 32) (w : ℕ → F .f32) (j : ℕ) : F .f32 :=
  Scalar.select (IntOp.cmpi .eq r 0#32)
    (FloatOps.addf (dot x (fun k => w (10 * j + k)) 9) (w (100 + j)))
    (FloatOps.addf (dot x (fun k => w (110 + 10 * j + k)) 9) (w (210 + j)))

/-- Word `n` of the outputs of a run of tokens, ten words a token: the inputs in rows of ten, one route word a token, each weight in
    sixteen copies of which token `i` reads number `i % 16`. -/
def rowsOut (x : ℕ → F .f32) (r : ℕ → BitVec 32) (w : ℕ → F .f32) (n : ℕ) : F .f32 :=
  outVal (fun k => x (10 * (n / 10) + k)) (r (n / 10)) (fun p => w (16 * p + n / 10 % 16)) (n % 10)

/-- `dot` reads its first `k + 1` words only. -/
theorem dot_congr {x x' w w' : ℕ → F .f32} : ∀ k, (∀ p ≤ k, x p = x' p) → (∀ p ≤ k, w p = w' p) → dot x w k = dot x' w' k
  | 0, hx, hw => by rw [dot, dot, hx 0 le_rfl, hw 0 le_rfl]
  | k + 1, hx, hw => by
    rw [dot, dot, dot_congr k (fun p hp => hx p (by omega)) (fun p hp => hw p (by omega)), hx _ le_rfl, hw _ le_rfl]

/-- `outVal` reads ten inputs only. -/
theorem outVal_congr {x x' : ℕ → F .f32} {r r' : BitVec 32} {w : ℕ → F .f32} {j : ℕ} (hx : ∀ k < 10, x k = x' k) (hr : r = r') :
    outVal x r w j = outVal x' r' w j := by
  subst hr
  unfold outVal
  rw [dot_congr 9 (fun p hp => hx p (by omega)) fun _ _ => rfl, dot_congr 9 (fun p hp => hx p (by omega)) fun _ _ => rfl]

end Value

/-! ## A scatter that names each word at most once -/

section Fold

variable {ι A V : Type} (hit : ι → A → Prop) [∀ k j, Decidable (hit k j)] (v : ι → V)

theorem fold_miss (j : A) : ∀ (L : List ι) (f : A → V), (∀ k ∈ L, ¬hit k j) →
    L.foldl (fun g k => fun j => if hit k j then v k else g j) f j = f j
  | [], _, _ => rfl
  | a :: L, f, h => (fold_miss j L _ fun k hk => h k (List.mem_cons_of_mem _ hk)).trans (if_neg (h a List.mem_cons_self))

theorem fold_hit (j : A) {k₀ : ι} : ∀ (L : List ι) (f : A → V), k₀ ∈ L → hit k₀ j → (∀ k ∈ L, hit k j → k = k₀) →
    L.foldl (fun g k => fun j => if hit k j then v k else g j) f j = v k₀
  | [], _, h, _, _ => absurd h List.not_mem_nil
  | a :: L, f, h, hh, hu => by
    by_cases hL : k₀ ∈ L
    · exact fold_hit j L _ hL hh fun k hk => hu k (List.mem_cons_of_mem _ hk)
    · have ha : a = k₀ := ((List.mem_cons.mp h).resolve_right hL).symm
      refine (fold_miss hit v j L _ fun k hk hk' => hL (hu k (List.mem_cons_of_mem _ hk) hk' ▸ hk)).trans ?_
      subst ha; exact if_pos hh

end Fold

section Scatter

variable {F : FTy → Type} [FloatOps F] {N n : ℕ}

/-- The word an unmasked scatter's lane names holds that lane's value, if no other lane names it. -/
theorem storeIdx_hit (f : Vec F ⟨1, ![N]⟩ .f32) (idx : IVec ⟨1, ![n]⟩ 32) (v : Vec F ⟨1, ![n]⟩ .f32)
    (h : ∀ a x, ((![idx] : Fin 1 → IVec ⟨1, ![n]⟩ 32) a x).toNat < (⟨1, ![N]⟩ : Shape).size a) (i : (⟨1, ![N]⟩ : Shape).Idx) (l : Fin n)
    (hl : (i 0).val = (idx (Shape.ofLane l)).toNat)
    (hu : ∀ l' : Fin n, (idx (Shape.ofLane l')).toNat = (idx (Shape.ofLane l)).toNat → l' = l) :
    storeIdx (F := F) (s := ⟨1, ![N]⟩) (e := .f32) f ![idx] v (fun _ => 1#1) false h i = v (Shape.ofLane l) := by
  refine fold_hit (fun (k : Fin n) (j : (⟨1, ![N]⟩ : Shape).Idx) => ∀ a, (j a).val = (idxAt ![idx] h (Shape.ofLane k) a).val)
    (fun k => v (Shape.ofLane k)) i (k₀ := l) (List.finRange n) f (List.mem_finRange l) ?_ ?_
  · intro a; match a with | 0 => exact hl
  · intro k _ hk; exact hu k ((hk 0).symm.trans hl)

/-- A word no lane names keeps what it held. -/
theorem storeIdx_miss (f : Vec F ⟨1, ![N]⟩ .f32) (idx : IVec ⟨1, ![n]⟩ 32) (v : Vec F ⟨1, ![n]⟩ .f32)
    (h : ∀ a x, ((![idx] : Fin 1 → IVec ⟨1, ![n]⟩ 32) a x).toNat < (⟨1, ![N]⟩ : Shape).size a) (i : (⟨1, ![N]⟩ : Shape).Idx)
    (hl : ∀ l : Fin n, (i 0).val ≠ (idx (Shape.ofLane l)).toNat) :
    storeIdx (F := F) (s := ⟨1, ![N]⟩) (e := .f32) f ![idx] v (fun _ => 1#1) false h i = f i :=
  fold_miss (fun (k : Fin n) (j : (⟨1, ![N]⟩ : Shape).Idx) => ∀ a, (j a).val = (idxAt ![idx] h (Shape.ofLane k) a).val)
    (fun k => v (Shape.ofLane k)) i (List.finRange n) f fun k _ hk => hl k (hk 0)

end Scatter

end Cert.Proof.Rows

end
-- ==== Proof.IdealTrip.lean ====
/-
  One trip of the tile's loop (sixteen tokens), written out as what it is: the sixteen route words, ten gathers of the tokens' ten
  inputs, then ten blocks, block `j` accumulating output column `j` of both experts and scattering the selected one. The printed trip is
  cut in windows of sixty statements that fall across the blocks; `body_eq` says the two are one program.
-/
module

public import proofs.«01_k».proof.Defs
public import Idealize.ShloMosaic.Lib.SparseCore.Ops
public import Idealize.ShloMosaic.Lib.Tactic
public import proofs.«01_k».proof.Proof.Gen.KernelIdeal
public import proofs.«01_k».proof.Proof.Gen.KernelIdeal.Skeleton

@[expose] public section

noncomputable section

namespace Cert.Proof.MoeIdeal

open Cert.KernelIdeal Cert.KernelIdeal.Gen

open Idealize.ShloMosaic Idealize.SL.Sem

variable {F : FTy → Type} [FloatOps F]

/-- Programs of the tile at grid coordinates `i`. -/
abbrev TileProg (F : FTy → Type) (i : grid0.Coords) (α : Type) :=
  Prog (TpuEff nD τ sig (Elt F) Λ₀ (.scVector ((i 0).castLE hcore0) ((i 1).castLE hsub0))) α

/-- A side condition on an index vector: that every lane is inside the ten-thousand-word buffers, as the program decides it at one of
    its gathers or scatters. -/
structure InRange where
  P : IVec S16 32 → Prop
  dec : ∀ v, Decidable (P v)
  inb : ∀ v, P v → ∀ a x, ((![v] : Fin 1 → IVec S16 32) a x).toNat < S10240.size a
  ok : ∀ v, (∀ a x, ((![v] : Fin 1 → IVec S16 32) a x).toNat < S10240.size a) → P v

theorem w_inb (r : ℕ) (hr : r < 224) : ∀ a, (![16 * r] : Fin 1 → ℕ) a + S16.size a ≤ S3584.size a := by
  intro a
  match a with
  | 0 => show 16 * r + 16 ≤ 3584; omega

section Prog

variable (i : grid0.Coords) (xs ov : Memref sig .scVector .vmem S10240 .f32) (rv : Memref sig .scVector .vmem S1024 .i32)
  (wt : Memref sig .scVector .vmem S3584 .f32)

/-- Row `r` of the weight table, sixteen copies of one weight. -/
def wRow (r : ℕ) (hr : r < 224) : TileProg F i (Vec F S16 .f32) :=
  Prog.lift (.load wt (Rect.unit (s := S3584) ![16 * r] S16.size (w_inb r hr)).toLoadRect (View.loadsAt_vmem h_S16))

/-- The words of column `j` of trip `t`'s sixteen rows of ten. -/
def col (t : Fin k0_t1_loop.trips) (j : ℕ) : IVec S16 32 :=
  addi k0_pay1 (broadcast S16 (Scalar.addi (Scalar.muli (Scalar.muli (Scf.iv 0#32 1#32 t) 16#32) 10#32) (BitVec.ofNat 32 j)))

/-- Input `k` of the trip's sixteen tokens. -/
def input (C : InRange) (t : Fin k0_t1_loop.trips) (k : ℕ) : TileProg F i (Vec F S16 .f32) := do
  have hw : C.P (col t k) := (← Prog.lift (TpuEff.assume (C.P (col t k)) (C.dec (col t k)))).down
  SparseCore.vectorLoadIdx xs ![col t k] (C.inb (col t k) hw) (View.loads_vmem h_S10240)

/-- The two experts' sums for output `j`, inputs `0` to `k`. -/
def sums (x : Fin 10 → Vec F S16 .f32) (j : ℕ) (hj : j < 10) : (k : ℕ) → k < 10 → TileProg F i (FVec F S16 .f32 × FVec F S16 .f32)
  | 0, _ => do
    let a ← wRow (F := F) i wt (10 * j) (by omega)
    let b ← wRow (F := F) i wt (110 + 10 * j) (by omega)
    pure (mulf (x 0) a, mulf (x 0) b)
  | k + 1, hk => do
    let p ← sums x j hj k (by omega)
    let a ← wRow (F := F) i wt (10 * j + (k + 1)) (by omega)
    let b ← wRow (F := F) i wt (110 + 10 * j + (k + 1)) (by omega)
    pure (addf p.1 (mulf (x ⟨k + 1, hk⟩) a), addf p.2 (mulf (x ⟨k + 1, hk⟩) b))

/-- Output `j` of the sixteen tokens: both sums, both biases, the selection, the scatter. -/
def block (C : InRange) (t : Fin k0_t1_loop.trips) (first : IVec S16 1) (x : Fin 10 → Vec F S16 .f32) (j : ℕ) (hj : j < 10) :
    TileProg F i PUnit := do
  let p ← sums i wt x j hj 9 (by omega)
  let a ← wRow (F := F) i wt (100 + j) (by omega)
  let b ← wRow (F := F) i wt (210 + j) (by omega)
  have hw : C.P (col t j) := (← Prog.lift (TpuEff.assume (C.P (col t j)) (C.dec (col t j)))).down
  SparseCore.vectorStoreIdx ov ![col t j] (select first (addf p.1 a) (addf p.2 b)) (fun _ => 1#1) false (C.inb (col t j) hw)
    (View.stores_vmem_bits_univ h_S10240 rfl)

/-- The side conditions, in the order the program decides them. -/
def chk : Fin 20 → InRange :=
  ![⟨k0_chk1, k0_chk1.dec, k0_idx1_inb, fun _ h => h⟩, ⟨k0_chk2, k0_chk2.dec, k0_idx2_inb, fun _ h => h⟩,
    ⟨k0_chk3, k0_chk3.dec, k0_idx3_inb, fun _ h => h⟩, ⟨k0_chk4, k0_chk4.dec, k0_idx4_inb, fun _ h => h⟩,
    ⟨k0_chk5, k0_chk5.dec, k0_idx5_inb, fun _ h => h⟩, ⟨k0_chk6, k0_chk6.dec, k0_idx6_inb, fun _ h => h⟩,
    ⟨k0_chk7, k0_chk7.dec, k0_idx7_inb, fun _ h => h⟩, ⟨k0_chk8, k0_chk8.dec, k0_idx8_inb, fun _ h => h⟩,
    ⟨k0_chk9, k0_chk9.dec, k0_idx9_inb, fun _ h => h⟩, ⟨k0_chk10, k0_chk10.dec, k0_idx10_inb, fun _ h => h⟩,
    ⟨k0_chk11, k0_chk11.dec, k0_idx11_inb, fun _ h => h⟩, ⟨k0_chk12, k0_chk12.dec, k0_idx12_inb, fun _ h => h⟩,
    ⟨k0_chk13, k0_chk13.dec, k0_idx13_inb, fun _ h => h⟩, ⟨k0_chk14, k0_chk14.dec, k0_idx14_inb, fun _ h => h⟩,
    ⟨k0_chk15, k0_chk15.dec, k0_idx15_inb, fun _ h => h⟩, ⟨k0_chk16, k0_chk16.dec, k0_idx16_inb, fun _ h => h⟩,
    ⟨k0_chk17, k0_chk17.dec, k0_idx17_inb, fun _ h => h⟩, ⟨k0_chk18, k0_chk18.dec, k0_idx18_inb, fun _ h => h⟩,
    ⟨k0_chk19, k0_chk19.dec, k0_idx19_inb, fun _ h => h⟩, ⟨k0_chk20, k0_chk20.dec, k0_idx20_inb, fun _ h => h⟩]

/-- The first `n` inputs, in a vector of ten. -/
def inputs (t : Fin k0_t1_loop.trips) : (n : ℕ) → n ≤ 10 → TileProg F i (Fin n → Vec F S16 .f32)
  | 0, _ => pure Fin.elim0
  | n + 1, hn => do
    let x ← inputs t n (by omega)
    let y ← input (F := F) i xs (chk ⟨n, by omega⟩) t n
    pure (Fin.snoc (α := fun _ => Vec F S16 .f32) x y)

/-- The first `n` blocks. -/
def blocks (t : Fin k0_t1_loop.trips) (first : IVec S16 1) (x : Fin 10 → Vec F S16 .f32) : (n : ℕ) → n ≤ 10 → TileProg F i PUnit
  | 0, _ => pure ⟨⟩
  | n + 1, hn => do
    blocks t first x n (by omega)
    block (F := F) i ov wt (chk ⟨10 + n, by omega⟩) t first x n (by omega)

/-- One trip. -/
def trip (t : Fin k0_t1_loop.trips) : TileProg F i Unit := do
  let r : Vec F S16 .i32 ← Prog.lift (.load rv (Rect.unit (s := S1024) (k0_off3 t) S16.size (k0_off3_inb t)).toLoadRect (View.loadsAt_vmem h_S16))
  let x ← inputs (F := F) i xs t 10 le_rfl
  blocks (F := F) i ov wt t (cmpi .eq r (broadcast S16 0#32)) x 10 le_rfl

end Prog

set_option maxRecDepth 65536 in
set_option maxHeartbeats 40000000 in
theorem body_eq (i : grid0.Coords) (arg2 : Memref sig .scVector .hbm S327680 .f32) (harg2 : arg2.IsWhole) (arg3 : Memref sig .scVector .hbm S32768 .i32) (harg3 : arg3.IsWhole) (arg4 : Memref sig .scVector .hbm S3584 .f32) (harg4 : arg4.IsWhole) (arg5 : Memref sig .scVector .hbm S327680 .f32) (harg5 : arg5.IsWhole) (arg6 : Memref sig .scVector .vmem S10240 .f32) (harg6 : arg6.IsWhole) (arg7 : Memref sig .scVector .vmem S1024 .i32) (harg7 : arg7.IsWhole) (arg8 : Memref sig .scVector .vmem S10240 .f32) (harg8 : arg8.IsWhole) (arg9 : Memref sig .scVector .vmem S3584 .f32) (harg9 : arg9.IsWhole) (v9_r0 : DmaSems sig S_) (v9_r1 : DmaSems sig S_) (v9_r2 : DmaSems sig S_) (v9_r3 : DmaSems sig S_)
    (t : Fin k0_t1_loop.trips) (u : Unit) :
    k0_t1_body (F := F) i arg2 harg2 arg3 harg3 arg4 harg4 arg5 harg5 arg6 harg6 arg7 harg7 arg8 harg8 arg9 harg9 v9_r0 v9_r1 v9_r2 v9_r3 t u
      = trip (F := F) i arg6 arg8 arg7 arg9 t := by
  unfold k0_t1_body trip
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [inputs, blocks, block, sums, input, wRow]
  simp (maxSteps := 100000000) only [SparseCore.vectorLoadIdx, SparseCore.vectorStoreIdx, Prog.lift, Prog.bind_op, Prog.bind_ret, Prog.pure_eq_ret]
  rfl

end Cert.Proof.MoeIdeal

end
-- ==== Proof.IdealTripSpec.lean ====
/-
  One trip of the tile's loop, reasoned about: what each of its pieces reads and leaves, and that trip `t` fills rows `16 t` to
  `16 t + 15` of the tile's output buffer with what `Rows.rowsOut` says.
-/
module

public import proofs.«01_k».proof.Proof.IdealTrip
public import proofs.«01_k».proof.Proof.Rows
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.MoeIdeal

open Cert.KernelIdeal Cert.KernelIdeal.Gen Cert.Proof.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The setting -/

/-- The ghost state: the launch handshakes' rounds, the transfers' counters. -/
abbrev UH : Type := URounds (GSem nD τ sig) ℕ
abbrev UU : Type := UH × Counters

local notation "𝕄" => MT nD τ sig (HIx 1) (Elt F) ℕ UU ℕ

abbrev 𝒱₀ : Variants := Variants.none

abbrev cV (L : grid0.Coords) : Fin τ.nSC := (L 0).castLE hcore0
abbrev jV (L : grid0.Coords) : Fin τ.nSub := (L 1).castLE hsub0
/-- The tile at grid coordinates `L` of device `d`. -/
abbrev thr (d : Dev nD) (L : grid0.Coords) : Thread nD τ := V d (cV L) (jV L)

/-- The tile's scratch buffers: its inputs, its route words, its outputs, the weights. -/
abbrev sX : Memref sig .scVector .vmem S10240 .f32 := Memref.whole cc0_scratch0
abbrev sR : Memref sig .scVector .vmem S1024 .i32 := Memref.whole cc0_scratch1
abbrev sO : Memref sig .scVector .vmem S10240 .f32 := Memref.whole cc0_scratch2
abbrev sW : Memref sig .scVector .vmem S3584 .f32 := Memref.whole cc0_scratch3

variable [FloatOps F]

section Trip

variable (d : Dev nD) (L : grid0.Coords)
  (X : Vec F S10240 .f32) (R : Vec F S1024 .i32) (W : Vec F S3584 .f32) (O : Vec F S10240 .f32)

abbrev ptsX : sProp 𝕄 := (sX).view.loc (thr d L) ↦{fullShare} X
abbrev ptsR : sProp 𝕄 := (sR).view.loc (thr d L) ↦{fullShare} R
abbrev ptsO : sProp 𝕄 := (sO).view.loc (thr d L) ↦{fullShare} O
abbrev ptsW : sProp 𝕄 := (sW).view.loc (thr d L) ↦{fullShare} W

/-- The run of a tile's program to postcondition `Q`. -/
abbrev run {α : Type} (p : TileProg F L α) (Q : α → sProp 𝕄) : sProp 𝕄 :=
  wp frame (wpE (defs₀ (F := F)) 𝒱₀ (thr d L) none) Set.univ p Q

variable {α : Type}

/-- Row `r` of the weight table. -/
def rowVec (r : ℕ) : Vec F S16 .f32 := fun l => rd W (16 * r + (l 0).val)

omit [FloatOps F] in
theorem read_row (r : ℕ) (hr : r < 224) :
    ((sW).access (Rect.unit (s := S3584) ![16 * r] S16.size (w_inb r hr))).read (Elt F) W = rowVec W r := by
  funext l
  rw [View.read_apply]
  exact rd_eq W (show 16 * r + 1 * (l 0).val = _ by rw [Nat.one_mul])

theorem wRow_spec (r : ℕ) (hr : r < 224) (k : Vec F S16 .f32 → TileProg F L α) (Q : α → sProp 𝕄) :
    ptsW d L W ⊢ iprop((ptsW d L W -∗ run d L (k (rowVec W r)) Q) -∗ run d L (wRow (F := F) L sW r hr >>= k) Q) := by
  simp only [wRow, Prog.lift, Prog.bind_op, Prog.bind_ret, run]
  have h := wp_load_rect (defs := defs₀ (F := F)) (Γ := .empty) (m := sW) (r := Rect.unit (s := S3584) ![16 * r] S16.size (w_inb r hr))
    (hl := View.loadsAt_vmem h_S16) (f := W) (k := k) (Q := Q) 𝒱₀ (thr d L) none Set.univ (S := Finset.univ) (q := fullShare) (Finset.subset_univ _)
  rw [read_row W r hr] at h
  exact h

theorem gather_spec {idx : Fin 1 → IVec S16 32} {hi : ∀ a x, (idx a x).toNat < S10240.size a} (k : Vec F S16 .f32 → TileProg F L α) (Q : α → sProp 𝕄) :
    ptsX d L X ⊢ iprop((ptsX d L X -∗ run d L (k (loadIdx X idx hi)) Q)
      -∗ run d L (SparseCore.vectorLoadIdx sX idx hi (View.loads_vmem h_S10240) >>= k) Q) := by
  have h := SparseCore.wp_vectorLoadIdx (defs := defs₀ (F := F)) (base := sX) (idxs := idx) (h := hi) (hl := View.loads_vmem h_S10240) (f := X)
    (k := k) (Q := Q) 𝒱₀ (thr d L) none Set.univ (S := Finset.univ) (q := fullShare) (Finset.subset_univ _)
  rw [show ((sX).access (Rect.whole S10240)).read (Elt F) X = X from Memref.read_access_whole (Elt F) cc0_scratch0 X] at h
  exact h

theorem scatter_spec {idx : Fin 1 → IVec S16 32} {hi : ∀ a x, (idx a x).toNat < S10240.size a} (v : Vec F S16 .f32)
    (k : PUnit → TileProg F L α) (Q : α → sProp 𝕄) :
    ptsO d L O ⊢ iprop((ptsO d L (storeIdx (F := F) (s := S10240) (e := .f32) O idx v (fun _ => 1#1) false hi) -∗ run d L (k ⟨⟩) Q)
      -∗ run d L (SparseCore.vectorStoreIdx sO idx v (fun _ => 1#1) false hi (View.stores_vmem_bits_univ h_S10240 rfl) >>= k) Q) := by
  have h := SparseCore.wp_vectorStoreIdx (defs := defs₀ (F := F)) (base := sO) (idxs := idx) (v := v) (mask := fun _ => 1#1) (add := false) (h := hi)
    (hs := View.stores_vmem_bits_univ h_S10240 rfl) (f := O) (k := k) (Q := Q) 𝒱₀ (thr d L) none Set.univ
  rw [show ((sO).access (Rect.whole S10240)).read (Elt F) O = O from Memref.read_access_whole (Elt F) cc0_scratch2 O,
    show ((sO).access (Rect.whole S10240)).set = Finset.univ from Memref.set_access_whole cc0_scratch2,
    show ∀ w, ((sO).access (Rect.whole S10240)).write (Elt F) O w Finset.univ = w from Memref.write_access_whole_univ (Elt F) cc0_scratch2 O] at h
  exact h

/-- The two sums over inputs `0` to `k`, lane by lane. -/
def sumVec (x : Fin 10 → Vec F S16 .f32) (base k : ℕ) : Vec F S16 .f32 :=
  fun l => dot (fun p => x (Fin.ofNat 10 p) l) (fun p => rowVec W (base + p) l) k

theorem sums_spec (x : Fin 10 → Vec F S16 .f32) (j : ℕ) (hj : j < 10) : ∀ (n : ℕ) (hn : n < 10) (k : FVec F S16 .f32 × FVec F S16 .f32 → TileProg F L α) (Q : α → sProp 𝕄),
    ptsW d L W ⊢ iprop((ptsW d L W -∗ run d L (k (sumVec W x (10 * j) n, sumVec W x (110 + 10 * j) n)) Q)
      -∗ run d L (sums (F := F) L sW x j hj n hn >>= k) Q)
  | 0, _, k, Q => by
    simp only [sums, bind_assoc, pure_bind]
    iintro Hw Hk
    iapply (wRow_spec d L W (10 * j) _ _ _) $$ Hw; iintro Hw
    iapply (wRow_spec d L W (110 + 10 * j) _ _ _) $$ Hw; iintro Hw
    iapply Hk; iexact Hw
  | n + 1, hn, k, Q => by
    simp only [sums, bind_assoc, pure_bind]
    iintro Hw Hk
    iapply (sums_spec x j hj n _ _ _) $$ Hw; iintro Hw
    iapply (wRow_spec d L W (10 * j + (n + 1)) _ _ _) $$ Hw; iintro Hw
    iapply (wRow_spec d L W (110 + 10 * j + (n + 1)) _ _ _) $$ Hw; iintro Hw
    rw [show (⟨n + 1, hn⟩ : Fin 10) = Fin.ofNat 10 (n + 1) from Fin.ext (Nat.mod_eq_of_lt hn).symm]
    iapply Hk; iexact Hw

/-- The selected outputs `j` of the sixteen tokens. -/
def outVec (r : Vec F S16 .i32) (x : Fin 10 → Vec F S16 .f32) (j : ℕ) : Vec F S16 .f32 :=
  fun l => outVal (fun p => x (Fin.ofNat 10 p) l) (r l) (fun p => rowVec W p l) j

theorem outVec_eq (r : Vec F S16 .i32) (x : Fin 10 → Vec F S16 .f32) (j : ℕ) :
    outVec W r x j = select (cmpi .eq r (broadcast S16 0#32)) (addf (sumVec W x (10 * j) 9) (rowVec W (100 + j)))
      (addf (sumVec W x (110 + 10 * j) 9) (rowVec W (210 + j))) := rfl

omit [FloatOps F] in
/-- Column `j` of trip `t`: lane `l` names word `160 t + 10 l + j`. -/
theorem col_val (t : Fin k0_t1_loop.trips) (j : ℕ) (hj : j < 10) (l : S16.Idx) : (col t j l).toNat = 160 * t.val + 10 * (l 0).val + j := by
  have ht : t.val < 64 := t.isLt
  have hl : (l 0).val < 16 := (l 0).isLt
  show (BitVec.ofNat 32 (0 * 16 + (l 0).val) * 10#32 + ((0#32 + BitVec.ofNat 32 t.val * 1#32) * 16#32 * 10#32 + BitVec.ofNat 32 j)).toNat = _
  simp only [BitVec.toNat_add, BitVec.toNat_mul, BitVec.toNat_ofNat, Nat.zero_mul, Nat.zero_add]
  omega

omit [FloatOps F] in
theorem col_inb (t : Fin k0_t1_loop.trips) (j : ℕ) (hj : j < 10) :
    ∀ a x, ((![col t j] : Fin 1 → IVec S16 32) a x).toNat < S10240.size a := by
  intro a x
  have ht : t.val < 64 := t.isLt
  have hl : (x 0).val < 16 := (x 0).isLt
  match a with
  | 0 => show (col t j x).toNat < 10240; rw [col_val t j hj x]; omega

/-- The output buffer `O` after column `j` of trip `t` is scattered into it. -/
def putCol (t : Fin k0_t1_loop.trips) (r : Vec F S16 .i32) (x : Fin 10 → Vec F S16 .f32) (j : ℕ) (hj : j < 10) : Vec F S10240 .f32 :=
  storeIdx (F := F) (s := S10240) (e := .f32) O ![col t j] (outVec W r x j) (fun _ => 1#1) false (col_inb t j hj)

theorem block_spec (C : InRange) (t : Fin k0_t1_loop.trips) (r : Vec F S16 .i32) (x : Fin 10 → Vec F S16 .f32) (j : ℕ) (hj : j < 10)
    (k : PUnit → TileProg F L α) (Q : α → sProp 𝕄) :
    ptsW d L W ⊢ iprop(ptsO d L O -∗ ((ptsW d L W ∗ ptsO d L (putCol W O t r x j hj)) -∗ run d L (k ⟨⟩) Q)
      -∗ run d L (block (F := F) L sO sW C t (cmpi .eq r (broadcast S16 0#32)) x j hj >>= k) Q) := by
  simp only [block, bind_assoc]
  iintro Hw Ho Hk
  iapply (sums_spec d L W x j hj 9 _ _ _) $$ Hw; iintro Hw
  iapply (wRow_spec d L W (100 + j) _ _ _) $$ Hw; iintro Hw
  iapply (wRow_spec d L W (210 + j) _ _ _) $$ Hw; iintro Hw
  rw [← outVec_eq W r x j]
  simp only [Prog.lift, Prog.bind_op, Prog.bind_ret, run]
  rw [wp_assume_of _ _ _ _ (C.ok _ (col_inb t j hj))]
  iapply (scatter_spec d L O _ _ _) $$ Ho; iintro Ho
  iapply Hk
  isplitl [Hw]
  · iexact Hw
  · iexact Ho

/-- The output buffer after the first `n` columns of trip `t`. -/
def putCols (t : Fin k0_t1_loop.trips) (r : Vec F S16 .i32) (x : Fin 10 → Vec F S16 .f32) : (n : ℕ) → n ≤ 10 → Vec F S10240 .f32
  | 0, _ => O
  | n + 1, hn => putCol W (putCols t r x n (by omega)) t r x n (by omega)

theorem blocks_spec (t : Fin k0_t1_loop.trips) (r : Vec F S16 .i32) (x : Fin 10 → Vec F S16 .f32) :
    ∀ (n : ℕ) (hn : n ≤ 10) (k : PUnit → TileProg F L α) (Q : α → sProp 𝕄),
    ptsW d L W ⊢ iprop(ptsO d L O -∗ ((ptsW d L W ∗ ptsO d L (putCols W O t r x n hn)) -∗ run d L (k ⟨⟩) Q)
      -∗ run d L (blocks (F := F) L sO sW t (cmpi .eq r (broadcast S16 0#32)) x n hn >>= k) Q)
  | 0, _, k, Q => by
    simp only [blocks, pure_bind]
    iintro Hw Ho Hk
    iapply Hk
    isplitl [Hw]
    · iexact Hw
    · iexact Ho
  | n + 1, hn, k, Q => by
    simp only [blocks, bind_assoc]
    iintro Hw Ho Hk
    iapply (blocks_spec t r x n _ _ _) $$ Hw Ho
    iintro ⟨Hw, Ho⟩
    iapply (block_spec d L W _ _ t r x n _ _ _) $$ Hw Ho
    iexact Hk

/-- Input `k` of trip `t`'s sixteen tokens. -/
def inVec (t k : ℕ) : Vec F S16 .f32 := fun l => rd X (160 * t + 10 * (l 0).val + k)

omit [FloatOps F] in
theorem loadIdx_col (t : Fin k0_t1_loop.trips) (j : ℕ) (hj : j < 10) (hi : ∀ a x, ((![col t j] : Fin 1 → IVec S16 32) a x).toNat < S10240.size a) :
    loadIdx X ![col t j] hi = inVec X t.val j :=
  funext fun l => rd_eq X (col_val t j hj l)

theorem inputs_spec (t : Fin k0_t1_loop.trips) :
    ∀ (n : ℕ) (hn : n ≤ 10) (k : (Fin n → Vec F S16 .f32) → TileProg F L α) (Q : α → sProp 𝕄),
    ptsX d L X ⊢ iprop((ptsX d L X -∗ run d L (k fun p => inVec X t.val p.val) Q) -∗ run d L (inputs (F := F) L sX t n hn >>= k) Q)
  | 0, _, k, Q => by
    simp only [inputs, pure_bind]
    rw [show (fun p : Fin 0 => inVec X t.val p.val) = Fin.elim0 from funext fun p => p.elim0]
    iintro Hx Hk
    iapply Hk; iexact Hx
  | n + 1, hn, k, Q => by
    simp only [inputs, bind_assoc, pure_bind]
    iintro Hx Hk
    iapply (inputs_spec t n _ _ _) $$ Hx; iintro Hx
    simp only [input, bind_assoc, Prog.lift, Prog.bind_op, Prog.bind_ret, run]
    rw [wp_assume_of _ _ _ _ ((chk ⟨n, by omega⟩).ok _ (col_inb t n (by omega)))]
    iapply (gather_spec d L X _ _) $$ Hx; iintro Hx
    rw [loadIdx_col X t n (by omega), show Fin.snoc (α := fun _ => Vec F S16 .f32) (fun p : Fin n => inVec X t.val p.val) (inVec X t.val n)
        = fun p : Fin (n + 1) => inVec X t.val p.val from funext fun p => by
      refine Fin.lastCases ?_ (fun p => ?_) p
      · rw [Fin.snoc_last]; rfl
      · rw [Fin.snoc_castSucc]; rfl]
    iapply Hk; iexact Hx

/-- Trip `t`'s sixteen route words. -/
def routeVec (t : ℕ) : Vec F S16 .i32 := fun l => rd R (16 * t + (l 0).val)

omit [FloatOps F] in
theorem read_route (t : Fin k0_t1_loop.trips) :
    ((sR).access (Rect.unit (s := S1024) (k0_off3 t) S16.size (k0_off3_inb t))).read (Elt F) R = routeVec R t.val := by
  funext l
  rw [View.read_apply]
  refine rd_eq R (?_ : k0_off3 t 0 + 1 * (l 0).val = _)
  rw [Nat.one_mul]
  exact congrArg (· + (l 0).val) (congrFun (k0_off3_eq t) 0 : k0_off3 t 0 = 16 * t.val)

theorem route_spec (t : Fin k0_t1_loop.trips) (k : Vec F S16 .i32 → TileProg F L α) (Q : α → sProp 𝕄) :
    ptsR d L R ⊢ iprop((ptsR d L R -∗ run d L (k (routeVec R t.val)) Q)
      -∗ run d L (Prog.lift (.load sR (Rect.unit (s := S1024) (k0_off3 t) S16.size (k0_off3_inb t)).toLoadRect (View.loadsAt_vmem h_S16)) >>= k) Q) := by
  simp only [Prog.lift, Prog.bind_op, Prog.bind_ret, run]
  have h := wp_load_rect (defs := defs₀ (F := F)) (Γ := .empty) (m := sR) (r := Rect.unit (s := S1024) (k0_off3 t) S16.size (k0_off3_inb t))
    (hl := View.loadsAt_vmem h_S16) (f := R) (k := k) (Q := Q) 𝒱₀ (thr d L) none Set.univ (S := Finset.univ) (q := fullShare) (Finset.subset_univ _)
  rw [read_route R t] at h
  exact h

/-- Words of the output buffer written so far: the rows of the trips before trip `t`, and the first `j` columns of its own. -/
def Filled (t j : ℕ) : Prop :=
  ∀ p : S10240.Idx, ((p 0).val / 10 < 16 * t ∨ ((p 0).val / 10 < 16 * (t + 1) ∧ (p 0).val % 10 < j)) → O p = rowsOut (rd X) (rd R) (rd W) (p 0).val

theorem Filled.putCol {t : Fin k0_t1_loop.trips} {j : ℕ} (hj : j < 10) (h : Filled X R W O t.val j) :
    Filled X R W (putCol W O t (routeVec R t.val) (fun p => inVec X t.val p.val) j hj) t.val (j + 1) := by
  intro p hp
  by_cases hc : 16 * t.val ≤ (p 0).val / 10 ∧ (p 0).val / 10 < 16 * (t.val + 1) ∧ (p 0).val % 10 = j
  · obtain ⟨h1, h2, h3⟩ := hc
    have hl : (p 0).val / 10 - 16 * t.val < 16 := by omega
    refine (storeIdx_hit (N := 10240) (n := 16) O (col t j) _ (col_inb t j hj) p ⟨(p 0).val / 10 - 16 * t.val, hl⟩ ?_ ?_).trans ?_
    · rw [col_val t j hj]
      show (p 0).val = 160 * t.val + 10 * ((p 0).val / 10 - 16 * t.val) + j
      omega
    · intro l' e
      rw [col_val t j hj, col_val t j hj] at e
      have e' : 160 * t.val + 10 * l'.val + j = 160 * t.val + 10 * ((p 0).val / 10 - 16 * t.val) + j := e
      exact Fin.ext (by show l'.val = (p 0).val / 10 - 16 * t.val; omega)
    · show outVal (fun k => rd X (160 * t.val + 10 * ((p 0).val / 10 - 16 * t.val) + k % 10)) (rd R (16 * t.val + ((p 0).val / 10 - 16 * t.val)))
        (fun q => rd W (16 * q + ((p 0).val / 10 - 16 * t.val))) j = _
      unfold rowsOut
      rw [h3, show (p 0).val / 10 % 16 = (p 0).val / 10 - 16 * t.val by omega]
      refine outVal_congr (fun k hk => congrArg (rd X) ?_) (congrArg (rd R) ?_)
      · rw [Nat.mod_eq_of_lt hk]; omega
      · omega
  · refine (storeIdx_miss (N := 10240) (n := 16) O (col t j) _ (col_inb t j hj) p fun l e => hc ?_).trans (h p (by omega))
    rw [col_val t j hj] at e
    have e' : (p 0).val = 160 * t.val + 10 * l.val + j := e
    have hl := l.isLt
    omega

theorem Filled.cols {t : Fin k0_t1_loop.trips} (h : Filled X R W O t.val 0) (n : ℕ) (hn : n ≤ 10) :
    Filled X R W (putCols W O t (routeVec R t.val) (fun p => inVec X t.val p.val) n hn) t.val n := by
  induction n with
  | zero => exact h
  | succ n ih => exact Filled.putCol X R W _ (by omega) (ih (by omega))

theorem Filled.next {t : ℕ} (h : Filled X R W O t 10) : Filled X R W O (t + 1) 0 := fun p hp => h p (by omega)

/-- The blocks of one trip fill its columns. -/
theorem blocks_filled (t : Fin k0_t1_loop.trips) (hO : Filled X R W O t.val 0) (n : ℕ) (hn : n ≤ 10) (k : PUnit → TileProg F L α) (Q : α → sProp 𝕄) :
    ptsW d L W ⊢ iprop(ptsO d L O -∗ ((ptsW d L W ∗ ∃ O, ⌜Filled X R W O t.val n⌝ ∗ ptsO d L O) -∗ run d L (k ⟨⟩) Q)
      -∗ run d L (blocks (F := F) L sO sW t (cmpi .eq (routeVec R t.val) (broadcast S16 0#32)) (fun p => inVec X t.val p.val) n hn >>= k) Q) := by
  iintro Hw Ho Hk
  iapply (blocks_spec d L W O t (routeVec R t.val) (fun p => inVec X t.val p.val) n hn k Q) $$ Hw Ho
  iintro ⟨Hw, Ho⟩
  iapply Hk
  isplitl [Hw]
  · iexact Hw
  iexists _
  isplitr [Ho]
  · ipureintro; exact Filled.cols X R W O hO n hn
  · iexact Ho

/-- What the trips share: the inputs, the route words and the weights in hand, and the output buffer filled up to trip `t`. -/
def upTo (t : ℕ) : sProp 𝕄 :=
  iprop(ptsX d L X ∗ ptsR d L R ∗ ptsW d L W ∗ ∃ O, ⌜Filled X R W O t 0⌝ ∗ ptsO d L O)

attribute [local irreducible] blocks inputs in
theorem trip_spec (t : Fin k0_t1_loop.trips) (k : Unit → TileProg F L α) (Q : α → sProp 𝕄) :
    upTo d L X R W t.val ⊢ iprop((upTo d L X R W (t.val + 1) -∗ run d L (k ⟨⟩) Q) -∗ run d L (trip (F := F) L sX sO sR sW t >>= k) Q) := by
  unfold upTo
  simp only [trip, bind_assoc]
  iintro ⟨Hx, Hr, Hw, %O, %hO, Ho⟩ Hk
  iapply (route_spec d L R t _ _) $$ Hr; iintro Hr
  iapply (inputs_spec d L X t 10 _ _ _) $$ Hx; iintro Hx
  iapply (blocks_filled d L X R W O t hO 10 le_rfl _ _) $$ Hw Ho
  iintro ⟨Hw, %O', %hO', Ho⟩
  iapply Hk
  isplitl [Hx]
  · iexact Hx
  isplitl [Hr]
  · iexact Hr
  isplitl [Hw]
  · iexact Hw
  iexists _
  isplitr [Ho]
  · ipureintro; exact Filled.next X R W O' hO'
  · iexact Ho

end Trip

end Cert.Proof.MoeIdeal

end
-- ==== Proof.IdealTile.lean ====
/-
  One tile's task: it fetches its 1024 tokens' inputs, their route words and the weight table, runs its loop of 64 trips, and writes
  its outputs out. At its end its block of the result holds what `Rows.rowsOut` says of the whole arrays.
-/
module

public import proofs.«01_k».proof.Proof.IdealTripSpec
public import Idealize.ShloMosaic.Lib.ShareLeaves

@[expose] public section

noncomputable section

namespace Cert.Proof.MoeIdeal

open Cert.KernelIdeal Cert.KernelIdeal.Gen Cert.Proof.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The arrays -/

abbrev xLoc (d : Dev nD) : Loc nD τ sig := (SparseCore.T d).loc main_v7
abbrev rLoc (d : Dev nD) : Loc nD τ sig := (SparseCore.T d).loc main_arg1
abbrev wLoc (d : Dev nD) : Loc nD τ sig := (SparseCore.T d).loc main_v6
abbrev oLoc (d : Dev nD) : Loc nD τ sig := (SparseCore.T d).loc main_v8

abbrev xV : Memref sig .scVector .hbm S327680 .f32 := Memref.whole main_v7_scv
abbrev rV : Memref sig .scVector .hbm S32768 .i32 := Memref.whole main_arg1_scv
abbrev wV : Memref sig .scVector .hbm S3584 .f32 := Memref.whole main_v6_scv
abbrev oV : Memref sig .scVector .hbm S327680 .f32 := Memref.whole main_v8_scv

abbrev rect1 (L : grid0.Coords) : Rect S327680 := Rect.unit (s := S327680) (k0_off1 L) S10240.size (k0_off1_inb L)
abbrev rect2 (L : grid0.Coords) : Rect S32768 := Rect.unit (s := S32768) (k0_off2 L) S1024.size (k0_off2_inb L)
/-- The tile's blocks of the inputs, the route words and the result, as it addresses them. -/
abbrev xSl (L : grid0.Coords) : Memref sig .scVector .hbm S10240 .f32 := (xV).slice (rect1 L) (fun _ => rfl)
abbrev rSl (L : grid0.Coords) : Memref sig .scVector .hbm S1024 .i32 := (rV).slice (rect2 L) (fun _ => rfl)
abbrev oSl (L : grid0.Coords) : Memref sig .scVector .hbm S10240 .f32 := (oV).slice (rect1 L) (fun _ => rfl)

section Tile

variable (d : Dev nD) (L : grid0.Coords) (qx qr qw : PosShare TreeShare)
  (A : Vec F S327680 .f32) (B : Vec F S32768 .i32) (C : Vec F S3584 .f32)

/-- The tile's number. -/
abbrev wid (L : grid0.Coords) : ℕ := 2 * (L 1).val + (L 0).val

/-- What the tile fetches. -/
def fetchX : Vec F S10240 .f32 := fun p => rd A (10240 * wid L + (p 0).val)
def fetchR : Vec F S1024 .i32 := fun p => rd B (1024 * wid L + (p 0).val)

theorem off1_zero : k0_off1 L 0 = 10240 * wid L :=
  (congrFun (k0_off1_eq L) 0).trans (show 20480 * (L 1).val + 10240 * (L 0).val = 10240 * (2 * (L 1).val + (L 0).val) by omega)
theorem off2_zero : k0_off2 L 0 = 1024 * wid L :=
  (congrFun (k0_off2_eq L) 0).trans (show 2048 * (L 1).val + 1024 * (L 0).val = 1024 * (2 * (L 1).val + (L 0).val) by omega)

theorem read_xSl : (xSl L).view.read (Elt F) A = fetchX L A := by
  funext p
  rw [View.read_apply]
  exact rd_eq A (show k0_off1 L 0 + 1 * (p 0).val = _ by rw [off1_zero, Nat.one_mul])
theorem read_rSl : (rSl L).view.read (Elt F) B = fetchR L B := by
  funext p
  rw [View.read_apply]
  exact rd_eq B (show k0_off2 L 0 + 1 * (p 0).val = _ by rw [off2_zero, Nat.one_mul])

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

theorem ownSems0_V :
    (ownSems0 (thr d L) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (thr d L)).erase (cell0 d (cV L) (jV L))).erase (cell1 d (cV L) (jV L))).erase (cell2 d (cV L) (jV L))).erase (cell3 d (cV L) (jV L)))
              fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d (cV L) (jV L))).mpr ⟨rfl, by show (SemLoc.dma cc0_scoped3.sem : SemLoc sig).isScoped .scVector = true; decide⟩⟩⟩⟩)]

/-- The four scratch buffers are among the tile's own: they are them, at some contents, and the rest. -/
theorem ownBufs_V :
    (ownBufs (thr d L) : sProp 𝕄)
      = iprop((∃ f, ptsX d L f) ∗ (∃ f, ptsR d L f) ∗ (∃ f, ptsO d L f) ∗ (∃ f, ptsW d L f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have ne {a b : Ref sig .scVector} (h : a ≠ b) : (Proc.scVector (cV L) (jV L)).devRef a ≠ (Proc.scVector (cV L) (jV L)).devRef b :=
    fun e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨ne (by decide), Finset.mem_erase.mpr ⟨ne (by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨ne (by decide), Finset.mem_erase.mpr ⟨ne (by decide), Finset.mem_erase.mpr ⟨ne (by decide),
      SparseCore.Cfg.mem_ownRefs_of_owner (p := Proc.scVector (cV L) (jV L)) (b := (Proc.scVector (cV L) (jV L)).devRef cc0_scratch3) rfl⟩⟩⟩)]
  rfl

variable [FloatOps F]

/-- The result array: what every token's outputs are, from the whole arrays. -/
def G : Vec F S327680 .f32 := fun i => rowsOut (rd A) (rd B) (rd C) (i 0).val

/-- The three arrays a tile reads, at its shares, and its block of the result. -/
abbrev inPts (qx qr qw : PosShare TreeShare) : sProp 𝕄 :=
  iprop(((xV).view.loc (thr d L) ↦{qx} A) ∗ ((rV).view.loc (thr d L) ↦{qr} B) ∗ (wV).view.loc (thr d L) ↦{qw} C)
abbrev outPts (f : Vec F S327680 .f32) : sProp 𝕄 := (oSl L).view.loc (thr d L) ↦[(oSl L).view.set]{fullShare} f

/-- One trip of the loop as the kernel has it. -/
theorem region_spec (X : Vec F S10240 .f32) (R : Vec F S1024 .i32) (t : Fin k0_t1_loop.trips) (u : Unit) :
    upTo d L X R C t.val ⊢ run d L (k0_t1_body (F := F) L xV (Memref.isWhole_whole _) rV (Memref.isWhole_whole _) wV (Memref.isWhole_whole _)
            oV (Memref.isWhole_whole _) sX (Memref.isWhole_whole _) sR (Memref.isWhole_whole _) sO (Memref.isWhole_whole _) sW (Memref.isWhole_whole _)
            cc0_scoped0 cc0_scoped1 cc0_scoped2 cc0_scoped3 t u) fun _ => upTo d L X R C (t.val + 1) := by
  rw [body_eq, ← bind_pure (trip (F := F) L sX sO sR sW t)]
  iintro HI
  iapply (trip_spec d L X R C t _ _) $$ HI
  iintro HI
  unfold run
  rw [wp_pure]
  imodintro
  iexact HI

set_option maxRecDepth 16384 in
/-- The loop fills the output buffer. -/
theorem loop_spec (X : Vec F S10240 .f32) (R : Vec F S1024 .i32) {α : Type} (k : Unit → TileProg F L α) (Q : α → sProp 𝕄) :
    upTo d L X R C 0 ⊢ iprop((upTo d L X R C 64 -∗ run d L (k ⟨⟩) Q)
      -∗ run d L (Scf.Loop.for k0_t1_loop k0_t1_ok ⟨⟩ (k0_t1_body (F := F) L xV (Memref.isWhole_whole _) rV (Memref.isWhole_whole _) wV (Memref.isWhole_whole _)
            oV (Memref.isWhole_whole _) sX (Memref.isWhole_whole _) sR (Memref.isWhole_whole _) sO (Memref.isWhole_whole _) sW (Memref.isWhole_whole _)
            cc0_scoped0 cc0_scoped1 cc0_scoped2 cc0_scoped3) >>= k) Q) := by
  unfold run
  have h := Scf.wp_for_bind Idealize.ShloMosaic.frame (wpE (defs₀ (F := F)) 𝒱₀ (thr d L) none) Set.univ k0_t1_loop.lb k0_t1_loop.ub k0_t1_loop.st k0_t1_ok ()
    (k0_t1_body (F := F) L xV (Memref.isWhole_whole _) rV (Memref.isWhole_whole _) wV (Memref.isWhole_whole _)
            oV (Memref.isWhole_whole _) sX (Memref.isWhole_whole _) sR (Memref.isWhole_whole _) sO (Memref.isWhole_whole _) sW (Memref.isWhole_whole _)
            cc0_scoped0 cc0_scoped1 cc0_scoped2 cc0_scoped3)
    (fun t (_ : Unit) => upTo d L X R C t) (region_spec d L C X R) (kk := k) (Q := Q)
  rw [show Scf.trips k0_t1_loop.lb k0_t1_loop.ub k0_t1_loop.st = 64 by decide +kernel] at h
  iintro HI Hk
  iapply h $$ HI
  iintro %_ HI
  iapply Hk; iexact HI

/-- Row `n` of the tile's block, computed from what the tile fetched, is that of the whole arrays. -/
theorem rows_block (n : ℕ) (hn : n < 10240) :
    rowsOut (rd (fetchX L A)) (rd (fetchR L B)) (rd C) n = rowsOut (rd A) (rd B) (rd C) (10240 * wid L + n) := by
  unfold rowsOut
  rw [show (10240 * wid L + n) / 10 = 1024 * wid L + n / 10 by omega, show (10240 * wid L + n) % 10 = n % 10 by omega,
    show (1024 * wid L + n / 10) % 16 = n / 10 % 16 by omega]
  refine outVal_congr (fun k hk => ?_) ?_
  · rw [← rd_eq (fetchX L A) (at1_val (N := 10240) (n := 10 * (n / 10) + k) (by omega))]
    show rd A _ = _
    rw [at1_val (by omega)]
    exact congrArg (rd A) (by omega)
  · rw [← rd_eq (fetchR L B) (at1_val (N := 1024) (n := n / 10) (by omega))]
    show rd B _ = _
    rw [at1_val (by omega)]

/-- A filled output buffer, written out, is the tile's block of the result. -/
theorem out_eq (f : Vec F S10240 .f32) (hf : Filled (fetchX L A) (fetchR L B) C f 64 0) (O₀ : Vec F S327680 .f32) :
    outPts d L ((oSl L).view.writes (Elt F) O₀ [⟨Rect.whole S10240, (sO).view.read (Elt F) f⟩]) = outPts d L (G A B C) := by
  refine pointsTo_congr fun i hi => ?_
  obtain ⟨p, -, rfl⟩ := Finset.mem_map.mp hi
  have hr := View.read_writes_cons_emb (Val := Elt F) (oSl L).view O₀ (Rect.whole S10240) ((sO).view.read (Elt F) f) [] p
  rw [Rect.emb_whole_apply] at hr
  have hn : (p 0).val < 10240 := (p 0).isLt
  have e : ((oSl L).view.emb p 0).val = 10240 * wid L + (p 0).val := by
    refine Eq.trans (b := k0_off1 L 0 + 1 * (p 0).val) rfl ?_
    rw [off1_zero, Nat.one_mul]
  have hg : G A B C ((oSl L).view.emb p) = rowsOut (rd A) (rd B) (rd C) (10240 * wid L + (p 0).val) := by
    rw [← e]; unfold G; rfl
  have h1 : f p = rowsOut (rd (fetchX L A)) (rd (fetchR L B)) (rd C) (p 0).val := hf p (.inl (by omega))
  rw [rows_block L A B C (p 0).val hn, ← hg] at h1
  have h2 : (sO).view.read (Elt F) f p = f p := rfl
  rw [h2, h1, View.read_apply, cast_eq] at hr
  exact hr

set_option maxHeartbeats 4000000 in
/-- The tile's task: three fetches, the loop, the write-out. -/
theorem tile_body (hF : (K (F := F)).Facts) (O₀ : Vec F S327680 .f32) (O : CellTallies nD τ sig (HIx 1)) (Wt : Waits sig (HIx 1)) (hO : ∀ g, O g none = 0) :
    iprop(levAts (K (F := F)).L (K (F := F)).lev ∗ emp
        ∗ (inPts d L A B C qx qr qw ∗ outPts d L O₀)
        ∗ scopedBufs (thr d L) ∗ scopedSems0 (thr d L) ∗ owes (thr d L) O Wt)
      ⊢ wp frame (wpE (defs₀ (F := F)) 𝒱₀ (thr d L) none) Set.univ
          (cc0__moe_body L xV (Memref.isWhole_whole _) rV (Memref.isWhole_whole _) wV (Memref.isWhole_whole _)
            oV (Memref.isWhole_whole _) sX (Memref.isWhole_whole _) sR (Memref.isWhole_whole _) sO (Memref.isWhole_whole _) sW (Memref.isWhole_whole _)
            cc0_scoped0 cc0_scoped1 cc0_scoped2 cc0_scoped3)
          fun _ => iprop((inPts d L A B C qx qr qw ∗ outPts d L (G A B C))
            ∗ scopedBufs (thr d L) ∗ scopedSems0 (thr d L)
            ∗ ∃ W', ⌜∀ p ∈ W', p ∈ Wt ∨ p.2 = none⌝ ∗ owes (thr d L) O W') := by
  simp only [cc0__moe_body_eq_skeleton]; unfold cc0__moe_body_skel
  rw [(K (F := F)).scopedBufs_V hF d (cV L) (jV L), SparseCore.Cfg.scopedSems0_V (Val := Elt F) d (cV L) (jV L), ownSems0_V, ownBufs_V]
  iintro ⟨#Hlv, -, ⟨⟨Hx, Hr, Hw⟩, Ho⟩, ⟨⟨%f0, HsX⟩, ⟨%f1, HsR⟩, ⟨%f2, HsO⟩, ⟨%f3, HsW⟩, Hbufs⟩, ⟨Hs0, Hs1, Hs2, Hs3, Hsems⟩, HO⟩
  ihave Hmw := (show levAts (K (F := F)).L (K (F := F)).lev ⊢ Transfers.MayWaits (thr d L) (default : HIx 1) O from
    (K (F := F)).mayWaits_none (thr := thr d L) hO) $$ Hlv
  sl_exec
  rw [show tile_body.sl.dma0 L A = fetchX L A from read_xSl L A, show tile_body.sl.dma0_1 L B = fetchR L B from read_rSl L B,
    show tile_body.sl.dma0_2 C = C from rfl,
    show View.write (Elt F) (sX).view f0 (fetchX L A) Finset.univ = fetchX L A from View.write_whole_univ _ _ _,
    show View.write (Elt F) (sR).view f1 (fetchR L B) Finset.univ = fetchR L B from View.write_whole_univ _ _ _,
    show View.write (Elt F) (sW).view f3 C Finset.univ = C from View.write_whole_univ _ _ _]
  iapply (loop_spec d L C (fetchX L A) (fetchR L B) _ _) $$ [HsX HsR HsW HsO]
  · unfold upTo
    isplitl [HsX]; · iexact HsX
    isplitl [HsR]; · iexact HsR
    isplitl [HsW]; · iexact HsW
    iexists f2
    isplitr [HsO]
    · ipureintro; intro p hp; omega
    · iexact HsO
  unfold upTo run
  iintro ⟨HsX, HsR, HsW, %f4, %hf, HsO⟩
  sl_exec
  sl_step
  isplitl [Hx Hr Hw Ho]
  · isplitl [Hx Hr Hw]
    · isplitl [Hx]; · iexact Hx
      isplitl [Hr]; · iexact Hr
      iexact Hw
    · iapply (Entails.of_eq (out_eq d L A B C f4 hf O₀)); iexact Ho
  isplitl [HsX HsR HsO HsW Hbufs]
  · isplitl [HsX]; · iexists _; iexact HsX
    isplitl [HsR]; · iexists _; iexact HsR
    isplitl [HsO]; · iexists _; iexact HsO
    isplitl [HsW]; · iexists _; iexact HsW
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.MoeIdeal

end
-- ==== Proof.IdealMain.lean ====
/-
  The whole program: the TensorCore's operations before the call, the call dealt to the tiles, and the reshape after it. At its end
  the six arguments are unchanged and the result is the reshape of what the tiles filled in (`G`).
-/
module

public import proofs.«01_k».proof.Proof.IdealTile
public import Idealize.ShloMosaic.Lib.Pipeline.Frame

@[expose] public section

noncomputable section

namespace Cert.Proof.MoeIdeal

open Cert.KernelIdeal Cert.KernelIdeal.Gen Cert.Proof.Rows

open Idealize.ShloMosaic
open Idealize.ShloMosaic.StableHlo (held held_sub_split held_congr wp_hlo_within wp_seq after seq)
open Idealize.ShloMosaic.Pipeline (ucRefs unscopedBufs_held sub_ucRefs)
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The blocks of the result, and the shares of what is read -/

/-- Tile `i` of SparseCore `c` fills block `2 i + c`; SparseCore `c` the blocks of its parity. -/
def tileSet (c : Fin 2) (i : Fin 16) : Finset S327680.Idx := Finset.univ.filter fun p => (p 0).val / 10240 = 2 * i.val + c.val
def coreSet (c : Fin 2) : Finset S327680.Idx := Finset.univ.filter fun p => (p 0).val / 10240 % 2 = c.val

theorem mem_tileSet (c : Fin 2) (i : Fin 16) (p : S327680.Idx) : p ∈ tileSet c i ↔ (p 0).val / 10240 = 2 * i.val + c.val := by
  unfold tileSet; rw [Finset.mem_filter]; exact and_iff_right (Finset.mem_univ p)
theorem mem_coreSet (c : Fin 2) (p : S327680.Idx) : p ∈ coreSet c ↔ (p 0).val / 10240 % 2 = c.val := by
  unfold coreSet; rw [Finset.mem_filter]; exact and_iff_right (Finset.mem_univ p)

theorem tiles_disjoint (c : Fin 2) : ∀ i ∈ (Finset.univ : Finset (Fin 16)), ∀ j ∈ (Finset.univ : Finset (Fin 16)), i ≠ j →
    Disjoint (tileSet c i) (tileSet c j) := fun i _ j _ h => Finset.disjoint_left.mpr fun p hi hj =>
  h (Fin.ext (by rw [mem_tileSet] at hi hj; omega))
theorem cores_disjoint : ∀ c ∈ (Finset.univ : Finset (Fin 2)), ∀ e ∈ (Finset.univ : Finset (Fin 2)), c ≠ e →
    Disjoint (coreSet c) (coreSet e) := fun c _ e _ h => Finset.disjoint_left.mpr fun p hc he =>
  h (Fin.ext (by rw [mem_coreSet] at hc he; omega))
theorem tiles_cover (c : Fin 2) : (Finset.univ : Finset (Fin 16)).biUnion (tileSet c) = coreSet c := by
  ext p
  have hp : (p 0).val < 327680 := (p 0).isLt
  have hc := c.isLt
  simp only [Finset.mem_biUnion, Finset.mem_univ, true_and, mem_tileSet, mem_coreSet]
  constructor
  · rintro ⟨i, hi⟩; omega
  · intro h
    exact ⟨⟨(p 0).val / 10240 / 2, by omega⟩, by show (p 0).val / 10240 = 2 * ((p 0).val / 10240 / 2) + c.val; omega⟩
theorem cores_cover : (Finset.univ : Finset (Fin 2)).biUnion coreSet = Finset.univ := by
  ext p
  simp only [Finset.mem_biUnion, Finset.mem_univ, true_and, mem_coreSet, iff_true]
  exact ⟨⟨(p 0).val / 10240 % 2, by omega⟩, rfl⟩

/-- A SparseCore's share of an array that is only read, and a tile's. -/
abbrev qc (c : Fin 2) : PosShare TreeShare := leaf 1 fullShare c
abbrev qt (c : Fin 2) (i : Fin 16) : PosShare TreeShare := leaf 4 (qc c) i

theorem leaves_core (ℓ : Loc nD τ sig) (f : Buf (Elt F) ℓ) : (ℓ ↦{fullShare} f : sProp 𝕄) = bigSep Finset.univ fun c : Fin 2 => ℓ ↦{qc c} f :=
  pointsTo_leaves Finset.univ f 1 fullShare
theorem leaves_tile (c : Fin 2) (ℓ : Loc nD τ sig) (f : Buf (Elt F) ℓ) : (ℓ ↦{qc c} f : sProp 𝕄) = bigSep Finset.univ fun i : Fin 16 => ℓ ↦{qt c i} f :=
  pointsTo_leaves Finset.univ f 4 (qc c)

/-- A conjunction of four, bracketed as three and one. -/
theorem three_one (X Y Z W : sProp 𝕄) : iprop(X ∗ Y ∗ Z ∗ W) = iprop((X ∗ Y ∗ Z) ∗ W) := by
  have h1 : iprop(X ∗ Y ∗ Z ∗ W) ⊢ iprop((X ∗ Y ∗ Z) ∗ W) := by
    iintro ⟨HX, HY, HZ, HW⟩
    isplitr [HW]
    · isplitl [HX]; · iexact HX
      isplitl [HY]; · iexact HY
      iexact HZ
    · iexact HW
  have h2 : iprop((X ∗ Y ∗ Z) ∗ W) ⊢ iprop(X ∗ Y ∗ Z ∗ W) := by
    iintro ⟨⟨HX, HY, HZ⟩, HW⟩
    isplitl [HX]; · iexact HX
    isplitl [HY]; · iexact HY
    isplitl [HZ]; · iexact HZ
    iexact HW
  exact BI.Entails.antisymm h1 h2

section Pieces

variable (d : Dev nD) (A : Vec F S327680 .f32) (B : Vec F S32768 .i32) (C : Vec F S3584 .f32)

/-- The three arrays that are read, at a share, and a set of the result's words. -/
abbrev piece (q : PosShare TreeShare) (I : Finset S327680.Idx) (f : Vec F S327680 .f32) : sProp 𝕄 :=
  iprop(((xLoc d ↦{q} A) ∗ (rLoc d ↦{q} B) ∗ (wLoc d ↦{q} C)) ∗ oLoc d ↦[I]{fullShare} f)

theorem piece_cores (f : Vec F S327680 .f32) :
    piece d A B C fullShare Finset.univ f = bigSep Finset.univ fun c : Fin 2 => piece d A B C (qc c) (coreSet c) f := by
  unfold piece
  rw [bigSep_sep', bigSep_sep', bigSep_sep', ← pointsTo_biUnion Finset.univ (ℓ := oLoc d) coreSet cores_disjoint, cores_cover]
  rw [← leaves_core, ← leaves_core, ← leaves_core]

theorem piece_tiles (c : Fin 2) (f : Vec F S327680 .f32) :
    piece d A B C (qc c) (coreSet c) f = bigSep Finset.univ fun i : Fin 16 => piece d A B C (qt c i) (tileSet c i) f := by
  unfold piece
  rw [bigSep_sep', bigSep_sep', bigSep_sep', ← pointsTo_biUnion Finset.univ (ℓ := oLoc d) (tileSet c) (tiles_disjoint c), tiles_cover]
  rw [← leaves_tile, ← leaves_tile, ← leaves_tile]

end Pieces

/-- A tile's block, as the tile addresses it. -/
theorem set_oSl (L : grid0.Coords) (c : Fin 2) (i : Fin 16) (hc : (L 0).val = c.val) (hi : (L 1).val = i.val) : (oSl L).view.set = tileSet c i := by
  refine Finset.ext fun p => ?_
  rw [mem_tileSet]
  have hw : wid L = 2 * i.val + c.val := by unfold wid; rw [hc, hi]
  constructor
  · intro hp
    obtain ⟨q, -, rfl⟩ := Finset.mem_map.mp hp
    have hq : (q 0).val < 10240 := (q 0).isLt
    have e : ((oSl L).view.emb q 0).val = 10240 * wid L + (q 0).val := by
      refine Eq.trans (b := k0_off1 L 0 + 1 * (q 0).val) rfl ?_
      rw [off1_zero, Nat.one_mul]
    rw [← hw, e]; omega
  · intro hp
    have e : (p 0).val = 10240 * wid L + (p 0).val % 10240 := by rw [hw]; omega
    refine Finset.mem_map.mpr ⟨fun a => match a with | 0 => ⟨(p 0).val % 10240, Nat.mod_lt _ (by decide)⟩, Finset.mem_univ _, ?_⟩
    refine idx_ext (N := 327680) ?_
    refine Eq.trans (b := k0_off1 L 0 + 1 * ((p 0).val % 10240)) rfl ?_
    rw [off1_zero, Nat.one_mul]; exact e.symm

variable [FloatOps F]

/-! ## The TensorCore's operations -/

abbrev op1 : HloOp τ sig (Elt F) := StableHlo.reshape main_arg2 main_v0 (rfl : (.f32 : EltTy) = .f32) shapeCasts_S10x10_S100
abbrev op2 : HloOp τ sig (Elt F) := StableHlo.reshape main_arg4 main_v1 (rfl : (.f32 : EltTy) = .f32) shapeCasts_S10x10_S100
abbrev op3 : HloOp τ sig (Elt F) := StableHlo.nullary main_cst (constant S_ .f32 0x00000000#32)
abbrev op4 : HloOp τ sig (Elt F) := StableHlo.unary main_cst main_v2 (broadcastInDim S4 ![] bcast_S_S4 : (⟨S_, .f32⟩ : BufTy).Contents (Elt F) → (⟨S4, .f32⟩ : BufTy).Contents (Elt F))
abbrev op5 : HloOp τ sig (Elt F) := StableHlo.nary ![main_v0, main_arg3, main_v1, main_arg5, main_v2] main_v3 (fun u => (concatenate S224 0 [⟨S100, (u 0 : (⟨S100, .f32⟩ : BufTy).Contents (Elt F))⟩, ⟨S10, (u 1 : (⟨S10, .f32⟩ : BufTy).Contents (Elt F))⟩, ⟨S100, (u 2 : (⟨S100, .f32⟩ : BufTy).Contents (Elt F))⟩, ⟨S10, (u 3 : (⟨S10, .f32⟩ : BufTy).Contents (Elt F))⟩, ⟨S4, (u 4 : (⟨S4, .f32⟩ : BufTy).Contents (Elt F))⟩] concatenates_S100_S10_S100_S10_S4_S224_d0 : (⟨S224, .f32⟩ : BufTy).Contents (Elt F)))
abbrev op6 : HloOp τ sig (Elt F) := StableHlo.unary main_v3 main_v4 (broadcastInDim S224x1 ![0] bcast_S224_S224x1_0 : (⟨S224, .f32⟩ : BufTy).Contents (Elt F) → (⟨S224x1, .f32⟩ : BufTy).Contents (Elt F))
abbrev op7 : HloOp τ sig (Elt F) := StableHlo.unary main_v4 main_v5 (broadcastInDim S224x16 ![0, 1] bcast_S224x1_S224x16_0_1 : (⟨S224x1, .f32⟩ : BufTy).Contents (Elt F) → (⟨S224x16, .f32⟩ : BufTy).Contents (Elt F))
abbrev op8 : HloOp τ sig (Elt F) := StableHlo.reshape main_v5 main_v6 (rfl : (.f32 : EltTy) = .f32) shapeCasts_S224x16_S3584
abbrev op9 : HloOp τ sig (Elt F) := StableHlo.reshape main_arg0 main_v7 (rfl : (.f32 : EltTy) = .f32) shapeCasts_S32768x10_S327680
abbrev opOut : HloOp τ sig (Elt F) := StableHlo.reshape main_v8 main_v9 (rfl : (.f32 : EltTy) = .f32) shapeCasts_S327680_S32768x10
/-- Those before the call, in order. -/
abbrev ops : List (HloOp τ sig (Elt F)) := [op1, op2, op3, op4, op5, op6, op7, op8, op9]

abbrev x' : DevRef τ sig := Proc.devRef .tc (main_v7 : Ref sig .tc)
abbrev r' : DevRef τ sig := Proc.devRef .tc (main_arg1 : Ref sig .tc)
abbrev w' : DevRef τ sig := Proc.devRef .tc (main_v6 : Ref sig .tc)
abbrev o' : DevRef τ sig := Proc.devRef .tc (main_v8 : Ref sig .tc)

variable (m : (ℓ : Loc nD τ sig) → Buf (Elt F) ℓ) (ρ : Dev nD → PrngReg)

/-- The arrays at the launch, before the call, after it, and at the end. -/
def V0 (d : Dev nD) : Valuation τ sig (Elt F) := fun b => m (d, b)
def V1 (d : Dev nD) : Valuation τ sig (Elt F) := after ops (V0 m d)
abbrev arrX (d : Dev nD) : Vec F S327680 .f32 := V1 m d x'
abbrev arrR (d : Dev nD) : Vec F S32768 .i32 := V1 m d r'
abbrev arrW (d : Dev nD) : Vec F S3584 .f32 := V1 m d w'
abbrev arrO (d : Dev nD) : Vec F S327680 .f32 := V1 m d o'
def V2 (d : Dev nD) : Valuation τ sig (Elt F) := Function.update (V1 m d) o' (G (arrX m d) (arrR m d) (arrW m d))
def V3 (d : Dev nD) : Valuation τ sig (Elt F) := (opOut (F := F)).result (V2 m d)

/-! ## What the call's threads are handed and hand back -/

/-- A SparseCore takes its share of the three arrays that are read and the blocks of its parity; a tile its share of them and its block;
    each brings them back, the blocks filled in. -/
def P : (K (F := F)).Pay (nD := nD) (Val := Elt F) (Name := ℕ) (U := UU) where
  st := fun q d c => match q with | 0 => piece d (arrX m d) (arrR m d) (arrW m d) (qc (Fin.cast nCore_zero c)) (coreSet (Fin.cast nCore_zero c)) (arrO m d)
  dn := fun q d c => match q with
    | 0 => piece d (arrX m d) (arrR m d) (arrW m d) (qc (Fin.cast nCore_zero c)) (coreSet (Fin.cast nCore_zero c)) (G (arrX m d) (arrR m d) (arrW m d))
  go := fun q d c i => match q with
    | 0 => piece d (arrX m d) (arrR m d) (arrW m d) (qt (Fin.cast nCore_zero c) (Fin.cast nSub_zero i)) (tileSet (Fin.cast nCore_zero c) (Fin.cast nSub_zero i)) (arrO m d)
  td := fun q d c i => match q with
    | 0 => piece d (arrX m d) (arrR m d) (arrW m d) (qt (Fin.cast nCore_zero c) (Fin.cast nSub_zero i)) (tileSet (Fin.cast nCore_zero c) (Fin.cast nSub_zero i))
        (G (arrX m d) (arrR m d) (arrW m d))
  x := fun _ _ => iprop(emp)

instance piece_storable (d : Dev nD) (A : Vec F S327680 .f32) (B : Vec F S32768 .i32) (C : Vec F S3584 .f32) (q : PosShare TreeShare)
    (I : Finset S327680.Idx) (f : Vec F S327680 .f32) : BI.Storable (upEmb : UEmb _ 𝕄) (piece d A B C q I f) := inferInstance

instance P_storable : (P (F := F) m).IsStorable where
  st q d c := match q with | 0 => piece_storable _ _ _ _ _ _ _
  dn q d c := match q with | 0 => piece_storable _ _ _ _ _ _ _
  go q d c i := match q with | 0 => piece_storable _ _ _ _ _ _ _
  td q d c i := match q with | 0 => piece_storable _ _ _ _ _ _ _

/-! ## A tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__moe_body (coordsV c s) xV (Memref.isWhole_whole _) rV (Memref.isWhole_whole _) wV (Memref.isWhole_whole _)
            oV (Memref.isWhole_whole _) sX (Memref.isWhole_whole _) sR (Memref.isWhole_whole _) sO (Memref.isWhole_whole _) sW (Memref.isWhole_whole _)
            cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What a tile is handed is what its task runs from. -/
theorem piece_tile (d : Dev nD) (L : grid0.Coords) (c : Fin 2) (i : Fin 16) (hc : (L 0).val = c.val) (hi : (L 1).val = i.val)
    (A : Vec F S327680 .f32) (B : Vec F S32768 .i32) (C : Vec F S3584 .f32) (f : Vec F S327680 .f32) :
    piece d A B C (qt c i) (tileSet c i) f = iprop(inPts d L A B C (qt c i) (qt c i) (qt c i) ∗ outPts d L f) := by
  unfold piece outPts
  rw [set_oSl L c i hc hi]

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body d (coordsV ⟨_, hci.1⟩ ⟨_, hci.2⟩) (qt (Fin.cast nCore_zero c) (Fin.cast nSub_zero i)) (qt (Fin.cast nCore_zero c) (Fin.cast nSub_zero i))
    (qt (Fin.cast nCore_zero c) (Fin.cast nSub_zero i)) (arrX m d) (arrR m d) (arrW m d) hF (arrO m d) O W hO
  rw [← piece_tile d _ (Fin.cast nCore_zero c) (Fin.cast nSub_zero i) rfl rfl, ← piece_tile d _ (Fin.cast nCore_zero c) (Fin.cast nSub_zero i) rfl rfl] at h
  exact h.trans (wp_mono frame _ _ fun _ => obl_post)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show piece d (arrX m d) (arrR m d) (arrW m d) (qc (Fin.cast nCore_zero c)) (coreSet (Fin.cast nCore_zero c)) (arrO m d) ⊢ |={Set.univ}=> iprop(
      (bigSep Finset.univ fun i : Fin ((K (F := F)).nSub 0) =>
        piece d (arrX m d) (arrR m d) (arrW m d) (qt (Fin.cast nCore_zero c) (Fin.cast nSub_zero i)) (tileSet (Fin.cast nCore_zero c) (Fin.cast nSub_zero i)) (arrO m d))
      ∗ ((bigSep Finset.univ fun i : Fin ((K (F := F)).nSub 0) =>
          piece d (arrX m d) (arrR m d) (arrW m d) (qt (Fin.cast nCore_zero c) (Fin.cast nSub_zero i)) (tileSet (Fin.cast nCore_zero c) (Fin.cast nSub_zero i))
            (G (arrX m d) (arrR m d) (arrW m d)))
          -∗ piece d (arrX m d) (arrR m d) (arrW m d) (qc (Fin.cast nCore_zero c)) (coreSet (Fin.cast nCore_zero c)) (G (arrX m d) (arrR m d) (arrW m d))))
  rw [bigSep_tasks (F := F) (fun i => piece d (arrX m d) (arrR m d) (arrW m d) (qt (Fin.cast nCore_zero c) i) (tileSet (Fin.cast nCore_zero c) i) (arrO m d)),
    bigSep_tasks (F := F) (fun i => piece d (arrX m d) (arrR m d) (arrW m d) (qt (Fin.cast nCore_zero c) i) (tileSet (Fin.cast nCore_zero c) i)
      (G (arrX m d) (arrR m d) (arrW m d))), ← piece_tiles, ← piece_tiles]
  iintro H; imodintro
  isplitl [H]; · iexact H
  iintro H; iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The four arrays of the call, out of the TensorCore's. -/
abbrev callBufs : Finset (DevRef τ sig) := {x', r', w', o'}

theorem callBufs_sub : callBufs ⊆ ucRefs τ sig := by
  have h (b : Ref sig .tc) (hb : ¬ (Proc.devRef (τ := τ) .tc b).isScoped) : Proc.devRef .tc b ∈ ucRefs τ sig :=
    Finset.mem_filter.mpr ⟨StableHlo.devRef_mem_tcRefs b, hb⟩
  intro b hb
  simp only [callBufs, Finset.mem_insert, Finset.mem_singleton] at hb
  rcases hb with rfl | rfl | rfl | rfl <;> exact h _ (by decide)

theorem held_callBufs (d : Dev nD) (W : Valuation τ sig (Elt F)) :
    (held (T d) callBufs W : sProp 𝕄) = piece d (W x') (W r') (W w') fullShare Finset.univ (W o') := by
  unfold held callBufs piece
  rw [SparseCore.bigSep_insert' (by decide), SparseCore.bigSep_insert' (by decide), SparseCore.bigSep_insert' (by decide), bigSep_singleton]
  exact three_one _ _ _ _

/-- What the call takes, and what it brings back. -/
theorem st0_eq (d : Dev nD) : (bigSep Finset.univ fun c : Fin ((K (F := F)).nCore 0) => (P m).st 0 d c) = held (T d) callBufs (V1 m d) := by
  rw [held_callBufs, piece_cores]
  exact bigSep_cores (F := F) fun c => piece d (arrX m d) (arrR m d) (arrW m d) (qc c) (coreSet c) (arrO m d)
theorem dn0_eq (d : Dev nD) : (bigSep Finset.univ fun c : Fin ((K (F := F)).nCore 0) => (P m).dn 0 d c) = held (T d) callBufs (V2 m d) := by
  rw [held_callBufs, show V2 m d x' = V1 m d x' from Function.update_of_ne (show x' ≠ o' by decide) _ _,
    show V2 m d r' = V1 m d r' from Function.update_of_ne (show r' ≠ o' by decide) _ _,
    show V2 m d w' = V1 m d w' from Function.update_of_ne (show w' ≠ o' by decide) _ _,
    show V2 m d o' = G (arrX m d) (arrR m d) (arrW m d) from Function.update_self _ _ _, piece_cores]
  exact bigSep_cores (F := F) fun c => piece d (arrX m d) (arrR m d) (arrW m d) (qc c) (coreSet c) (G (arrX m d) (arrR m d) (arrW m d))

theorem rest_eq (d : Dev nD) : (held (T d) (ucRefs τ sig \ callBufs) (V1 m d) : sProp 𝕄) = held (T d) (ucRefs τ sig \ callBufs) (V2 m d) :=
  held_congr (T d) fun b hb => (Function.update_of_ne (fun e => (Finset.mem_sdiff.mp hb).2 (by rw [e]; simp [callBufs])) _ _).symm

theorem ops_sub : ∀ op ∈ ops (F := F), op.bufs ⊆ ucRefs τ sig := by
  intro op h
  refine sub_ucRefs op ?_
  simp only [ops, List.mem_cons, List.not_mem_nil, or_false] at h
  rcases h with rfl | rfl | rfl | rfl | rfl | rfl | rfl | rfl | rfl <;> simp
theorem ops_fresh : ∀ op ∈ ops (F := F), op.fresh = ∅ := by
  intro op h
  simp only [ops, List.mem_cons, List.not_mem_nil, or_false] at h
  rcases h with rfl | rfl | rfl | rfl | rfl | rfl | rfl | rfl | rfl <;> rfl
theorem opOut_sub : (opOut (F := F)).bufs ⊆ ucRefs τ sig := sub_ucRefs _ (by simp)

theorem main_eq (d : Dev nD) : main (F := F) d = seq ops >>= fun _ => sc.run d 0 >>= fun _ => (hlo rfl opOut fun _ => .ret (⟨⟩ : PUnit)) >>= fun _ => pure ⟨⟩ := by
  simp only [main, seq, bind_assoc, pure_bind]

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ held (T d) (ucRefs τ sig) (V3 m d) ∗ (K (F := F)).tcEnd d) := by
  unfold SparseCore.Cfg.tcRes SparseCore.Cfg.tcEnd
  rw [show (unscopedBufs d (fun b => m ((SparseCore.T d).loc b)) : sProp 𝕄) = held (T d) (ucRefs τ sig) (V0 m d) from unscopedBufs_held d (V0 m d), main_eq]
  iintro ⟨#Hctx, Hst, ⟨Hb, Hheld, Hts, -⟩, -⟩
  iapply (wp_seq 𝒱 none Set.univ d (ucRefs τ sig) _ ops ops_sub ops_fresh (V0 m d)) $$ [Hb Hheld]
  · isplitl [Hb] <;> iassumption
  iintro ⟨Hb, Hheld⟩
  rw [wp_bind]
  ihave Hh := (show held (d.tc : Thread nD τ) (ucRefs τ sig) (after ops (V0 m d)) ⊢ iprop(held (T d) callBufs (V1 m d) ∗ held (T d) (ucRefs τ sig \ callBufs) (V1 m d) : sProp 𝕄)
    from Entails.of_eq (held_sub_split (Val := Elt F) (T d) callBufs_sub (V1 m d))) $$ Hheld
  icases Hh with ⟨H4, Hrest⟩
  iapply ((K (F := F)).wp_run (D (F := F)) 𝒱 (EH := EH) (P := P m) κ d 0) $$ [Hst H4 Hrest Hb Hts]
  isplitr; · iexact Hctx
  isplitl [Hst]; · iexact Hst
  isplitl [H4]; · rw [st0_eq]; iexact H4
  iintro ⟨Hst, Hdn⟩
  ihave H4 := (Entails.of_eq (dn0_eq m d)) $$ Hdn
  ihave Hrest' := (Entails.of_eq (rest_eq m d)) $$ Hrest
  ihave Hheld := (Entails.of_eq (held_sub_split (Val := Elt F) (T d) callBufs_sub (V2 m d)).symm) $$ [H4 Hrest']
  · isplitl [H4] <;> iassumption
  rw [wp_bind]
  iapply (wp_hlo_within 𝒱 (SparseCore.T d) none Set.univ (op := opOut) (S := ucRefs τ sig) opOut_sub (V := V2 m d)) $$ [Hb Hheld]
  · isplitl [Hb] <;> iassumption
  iintro ⟨Hb, Hheld⟩
  rw [wp_ret]; imodintro
  rw [wp_pure]; imodintro
  isplitl [Hst]; · iexact Hst
  isplitl [Hheld]; · iexact Hheld
  isplitl [Hb] <;> iassumption

/-! ## The program's run -/

/-- Every array of the TensorCore ends as `V3` says. -/
def fq (d : Dev nD) (s' : Phys nD τ sig (Elt F)) : Prop := ∀ b ∈ ucRefs τ sig, s'.mem.mem (d, b) = V3 m d b

theorem hfin (d : Dev nD) (s' : Phys nD τ sig (Elt F)) : iprop(held (T d) (ucRefs τ sig) (V3 m d) ∗ SI s') ⊢ (⌜fq m d s'⌝ : sProp 𝕄) := by
  unfold held
  iintro ⟨Hh, HSI⟩
  iapply (SI_pointsTo_bufs_agree (st := s') (c := d) (qs := fun _ => fullShare) (F := V3 m d) (ucRefs τ sig))
  isplitl [HSI]; · iexact HSI
  iexact Hh

def QC : PUnit × MemSt nD τ sig (Elt F) → Prop := fun r => (∀ d : Dev nD, ∀ b ∈ ucRefs τ sig, r.2.mem (d, b) = V3 m d b) ∧ r.2.sem = fun _ => 0

theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (fun d => held (T d) (ucRefs τ sig) (V3 m d)) (u₀ (F := F)) (sep_elim_left.trans (hu₀ m)) (hmain m ρ) (fq m) (hfin m) (QC m)
    (fun _ h hz => ⟨h, hz⟩)

/-! ## The run, read at the arguments and at the result -/

theorem mem_uc (b : Ref sig .tc) (h : (Proc.devRef .tc b : DevRef τ sig).isScoped = false := by decide) : (Proc.devRef .tc b : DevRef τ sig) ∈ ucRefs τ sig :=
  Finset.mem_filter.mpr ⟨StableHlo.devRef_mem_tcRefs b, by simp [h]⟩

/-- An array which neither the call nor the last operation writes is left as the operations before the call leave it. -/
theorem V3_of_ne (d : Dev nD) (b : Ref sig .tc) (h9 : b ≠ main_v9 := by decide)
    (h8 : (Proc.devRef .tc b : DevRef τ sig) ≠ o' := by decide) : V3 m d (Proc.devRef .tc b) = V1 m d (Proc.devRef .tc b) := by
  unfold V3 V2 opOut
  rw [StableHlo.reshape_result_ne (h := h9), Function.update_of_ne h8]

/-- The result is the call's, in rows of ten. -/
theorem V3_out (d : Dev nD) : V3 m d (Proc.devRef .tc main_v9) = shapeCast S32768x10 (G (arrX m d) (arrR m d) (arrW m d)) shapeCasts_S327680_S32768x10 := by
  unfold V3 V2 opOut
  rw [StableHlo.reshape_result, Function.update_self]
  rfl

/-- The operations before the call write no argument. -/
theorem V1_arg0 (d : Dev nD) : V1 m d (Proc.devRef .tc main_arg0) = m ((d.tc : Thread nD τ).loc main_arg0) := by unfold V1; after_results; rfl
theorem V1_arg1 (d : Dev nD) : V1 m d (Proc.devRef .tc main_arg1) = m ((d.tc : Thread nD τ).loc main_arg1) := by unfold V1; after_results; rfl
theorem V1_arg2 (d : Dev nD) : V1 m d (Proc.devRef .tc main_arg2) = m ((d.tc : Thread nD τ).loc main_arg2) := by unfold V1; after_results; rfl
theorem V1_arg3 (d : Dev nD) : V1 m d (Proc.devRef .tc main_arg3) = m ((d.tc : Thread nD τ).loc main_arg3) := by unfold V1; after_results; rfl
theorem V1_arg4 (d : Dev nD) : V1 m d (Proc.devRef .tc main_arg4) = m ((d.tc : Thread nD τ).loc main_arg4) := by unfold V1; after_results; rfl
theorem V1_arg5 (d : Dev nD) : V1 m d (Proc.devRef .tc main_arg5) = m ((d.tc : Thread nD τ).loc main_arg5) := by unfold V1; after_results; rfl

/-- The program ends, with the result above, its arguments as they were and every counter at zero. -/
theorem run_read [∀ e, Nonempty (Elt F e)] : θ_run (defs (F := F)) (threads (F := F)) ⟨m, fun _ => 0, ρ⟩ fun r => (∀ d : Dev nD,
    r.2.mem ((d.tc : Thread nD τ).loc main_v9) = shapeCast S32768x10 (G (arrX m d) (arrR m d) (arrW m d)) shapeCasts_S327680_S32768x10
    ∧ r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5)) ∧ r.2.sem = fun _ => 0 :=
  (θ_run _ _ _).mono (fun _ h => ⟨fun d => ⟨(h.1 d _ (mem_uc main_v9)).trans (V3_out m d),
      (h.1 d _ (mem_uc main_arg0)).trans ((V3_of_ne m d main_arg0).trans (V1_arg0 m d)),
      (h.1 d _ (mem_uc main_arg1)).trans ((V3_of_ne m d main_arg1).trans (V1_arg1 m d)),
      (h.1 d _ (mem_uc main_arg2)).trans ((V3_of_ne m d main_arg2).trans (V1_arg2 m d)),
      (h.1 d _ (mem_uc main_arg3)).trans ((V3_of_ne m d main_arg3).trans (V1_arg3 m d)),
      (h.1 d _ (mem_uc main_arg4)).trans ((V3_of_ne m d main_arg4).trans (V1_arg4 m d)),
      (h.1 d _ (mem_uc main_arg5)).trans ((V3_of_ne m d main_arg5).trans (V1_arg5 m d))⟩, h.2⟩) (run_main m ρ)

end Cert.Proof.MoeIdeal

end
-- ==== Proof.Value.lean ====
/-
  The kernel's result and the reference's, as functions of the six arguments, agree at the ideal floats.
-/
module

public import proofs.«01_k».proof.Proof.IdealMain
public import proofs.«01_k».proof.Proof.Gen.ReferenceIdeal.Run
public import Idealize.ShloMosaic.Lib.StackMember
public import Idealize.ShloMosaic.Lib.Pipeline.Value

@[expose] public section

noncomputable section

namespace Cert.Proof.MoeIdeal

open Cert.KernelIdeal Cert.KernelIdeal.Gen Cert.Proof.Rows

open Idealize.ShloMosaic Idealize.ShloMosaic.ValueIdx Idealize.SL.Sem
open Idealize.ShloMosaic.StableHlo (after)
open Idealize.ShloMosaic.Pipeline (ucRefs)

section Any

variable {F : FTy → Type} [FloatOps F]

/-! ## The operations before the call -/

section Layout

variable (X : Vec F S32768x10 .f32) (W1 W2 : Vec F S10x10 .f32) (b1 b2 : Vec F S10 .f32) (z : Vec F S4 .f32)

/-- The weights in a row: expert one's matrix, its bias, expert two's matrix, its bias, four zeros. -/
def weights : Vec F S224 .f32 :=
  concatenate S224 0 [⟨S100, shapeCast S100 W1 shapeCasts_S10x10_S100⟩, ⟨S10, b1⟩, ⟨S100, shapeCast S100 W2 shapeCasts_S10x10_S100⟩, ⟨S10, b2⟩, ⟨S4, z⟩]
    concatenates_S100_S10_S100_S10_S4_S224_d0
/-- The weights as the kernel reads them: each repeated sixteen times. -/
def spread (c : Vec F S224 .f32) : Vec F S3584 .f32 :=
  shapeCast S3584 (broadcastInDim S224x16 ![0, 1] bcast_S224x1_S224x16_0_1 (broadcastInDim S224x1 ![0] bcast_S224_S224x1_0 c)) shapeCasts_S224x16_S3584
def flat : Vec F S327680 .f32 := shapeCast S327680 X shapeCasts_S32768x10_S327680

theorem rd_flat (t : Fin 32768) (k : Fin 10) : rd (flat X) (10 * t.val + k.val) = X (ix2 t k) := by
  refine shapeCast_apply X _ _ _ ?_
  rw [Shape.rowMajor_val_two, Shape.rowMajor_val_one, at1_val (by omega)]
  show t.val * 10 + k.val = _
  omega

theorem rd_square (W : Vec F S10x10 .f32) (j k : Fin 10) : rd (shapeCast S100 W shapeCasts_S10x10_S100) (10 * j.val + k.val) = W (ix2 j k) := by
  refine shapeCast_apply W _ _ _ ?_
  rw [Shape.rowMajor_val_two, Shape.rowMajor_val_one, at1_val (by omega)]
  show j.val * 10 + k.val = _
  omega

theorem rd_spread (c : Vec F S224 .f32) (p l : ℕ) (hp : p < 224) (hl : l < 16) : rd (spread c) (16 * p + l) = rd c p := by
  unfold spread
  refine (shapeCast_apply _ _ _ (ix2 (⟨p, hp⟩ : Fin 224) (⟨l, hl⟩ : Fin 16)) ?_).trans
    ((broadcastInDim_apply _ _ _ _ (ix2 (⟨p, hp⟩ : Fin 224) (0 : Fin 1)) ?_).trans (broadcastInDim_apply _ _ _ _ (at1 224 p) ?_))
  · rw [Shape.rowMajor_val_two, Shape.rowMajor_val_one, at1_val (by omega)]
    show p * 16 + l = _
    omega
  · intro a; match a with
    | 0 => rfl
    | 1 => rfl
  · intro a; match a with
    | 0 => exact at1_val hp

theorem weights_piece (k : Nat) (hk : k < 5) (n : ℕ) [NeZero n] (f : Vec F ⟨1, ![n]⟩ .f32) (pre p : ℕ) (hp : p < n) (hlt : pre + p < 224)
    (hxk : ([⟨S100, shapeCast S100 W1 shapeCasts_S10x10_S100⟩, ⟨S10, b1⟩, ⟨S100, shapeCast S100 W2 shapeCasts_S10x10_S100⟩, ⟨S10, b2⟩, ⟨S4, z⟩] : List ((s : Shape) × (s.Idx → Elt F .f32)))[k]'hk = ⟨⟨1, ![n]⟩, f⟩)
    (hpre : ((([S100, S10, S100, S10, S4] : List Shape).take k).map fun s => if h : s.rank = S224.rank then s.size ((0 : Fin S224.rank).cast h.symm) else 0).sum = pre) :
    rd (weights W1 W2 b1 b2 z) (pre + p) = rd f p := by
  unfold weights
  refine concatenate_apply_piece (t := S224) (0 : Fin S224.rank) [⟨S100, shapeCast S100 W1 shapeCasts_S10x10_S100⟩, ⟨S10, b1⟩, ⟨S100, shapeCast S100 W2 shapeCasts_S10x10_S100⟩, ⟨S10, b2⟩, ⟨S4, z⟩] concatenates_S100_S10_S100_S10_S4_S224_d0 (at1 224 (pre + p)) k hk ⟨1, ![n]⟩ f hxk rfl pre
    ?_ (at1 n p) (fun b hb => absurd (Subsingleton.elim _ _) hb) ?_
  · rw [← hpre, List.map_take]; rfl
  · exact (congrArg (pre + ·) (at1_val hp)).trans (at1_val hlt).symm

theorem weights_w1 (j k : Fin 10) : rd (weights W1 W2 b1 b2 z) (10 * j.val + k.val) = W1 (ix2 j k) := by
  rw [← rd_square W1 j k, ← weights_piece W1 W2 b1 b2 z 0 (by decide) 100 _ 0 _ (by omega) (by omega) rfl (by decide), Nat.zero_add]
theorem weights_b1 (j : Fin 10) : rd (weights W1 W2 b1 b2 z) (100 + j.val) = b1 (ix1 j) := by
  rw [weights_piece W1 W2 b1 b2 z 1 (by decide) 10 b1 100 _ (by omega) (by omega) rfl (by decide)]
  exact congrArg b1 (idx_ext (at1_val j.isLt))
theorem weights_w2 (j k : Fin 10) : rd (weights W1 W2 b1 b2 z) (110 + 10 * j.val + k.val) = W2 (ix2 j k) := by
  rw [← rd_square W2 j k, ← weights_piece W1 W2 b1 b2 z 2 (by decide) 100 _ 110 _ (by omega) (by omega) rfl (by decide), Nat.add_assoc]
theorem weights_b2 (j : Fin 10) : rd (weights W1 W2 b1 b2 z) (210 + j.val) = b2 (ix1 j) := by
  rw [weights_piece W1 W2 b1 b2 z 3 (by decide) 10 b2 210 _ (by omega) (by omega) rfl (by decide)]
  exact congrArg b2 (idx_ext (at1_val j.isLt))

end Layout

variable (m : (ℓ : Loc nD τ sig) → Buf (Elt F) ℓ) (d : Dev nD)

/-- The arguments. -/
abbrev arg0 : Vec F S32768x10 .f32 := m ((d.tc : Thread nD τ).loc main_arg0)
abbrev arg1 : Vec F S32768 .i32 := m ((d.tc : Thread nD τ).loc main_arg1)
abbrev arg2 : Vec F S10x10 .f32 := m ((d.tc : Thread nD τ).loc main_arg2)
abbrev arg3 : Vec F S10 .f32 := m ((d.tc : Thread nD τ).loc main_arg3)
abbrev arg4 : Vec F S10x10 .f32 := m ((d.tc : Thread nD τ).loc main_arg4)
abbrev arg5 : Vec F S10 .f32 := m ((d.tc : Thread nD τ).loc main_arg5)

theorem arrX_eq : arrX m d = flat (arg0 m d) := by
  unfold arrX V1 flat
  after_results
  rfl
theorem arrR_eq : arrR m d = arg1 m d := by
  unfold arrR V1
  after_results
  rfl
theorem arrW_eq : ∃ z, arrW m d = spread (weights (arg2 m d) (arg4 m d) (arg3 m d) (arg5 m d) z) := by
  refine ⟨broadcastInDim S4 ![] bcast_S_S4 (constant S_ .f32 0x00000000#32), ?_⟩
  unfold arrW V1 spread weights
  after_results
  rfl

end Any

/-! ## The equation -/

theorem dot_eq_sum (x w : ℕ → EReal) (n : ℕ) : dot (F := Ideal) x w n = ∑ k : Fin (n + 1), x k.val * w k.val := by
  rw [Fin.sum_univ_eq_sum_range (fun k => x k * w k) (n + 1)]
  induction n with
  | zero => simp [dot, Ideal.mulf_def]
  | succ n ih => rw [Finset.sum_range_succ, ← ih]; rfl

section Equation

variable (X : Vec Ideal S32768x10 .f32) (R : Vec Ideal S32768 .i32) (W1 W2 : Vec Ideal S10x10 .f32) (b1 b2 : Vec Ideal S10 .f32)

/-- An expert, as the reference computes it. -/
def expert (W : Vec Ideal S10x10 .f32) (b : Vec Ideal S10 .f32) : Vec Ideal S32768x10 .f32 :=
  addf (Host.dotGeneral (F := Ideal) (φ₁ := .f32) (φ₂ := .f32) Cert.ReferenceIdeal.dot_S32768x10_S10x10_S32768x10_1_0_0_1_n_n none X
      (transpose Cert.ReferenceIdeal.S10x10 [1, 0] W Cert.ReferenceIdeal.Gen.transposes_S10x10_S10x10_1_0))
    (broadcastInDim Cert.ReferenceIdeal.S32768x10 ![0, 1] Cert.ReferenceIdeal.Gen.bcast_S1x10_S32768x10_0_1
      (broadcastInDim Cert.ReferenceIdeal.S1x10 ![1] Cert.ReferenceIdeal.Gen.bcast_S10_S1x10_1 b))

theorem expert_apply (W : Vec Ideal S10x10 .f32) (b : Vec Ideal S10 .f32) (t : Fin 32768) (j : Fin 10) :
    expert X W b (ix2 t j) = (∑ k : Fin 10, X (ix2 t k) * W (ix2 j k)) + b (ix1 j) := by
  unfold expert
  refine congrArg₂ (· + ·) ?_ ?_
  · refine (StackMember.dotGeneral_plain_apply (m := 32768) (k := 10) (n := 10) none X _ t j).trans (Finset.sum_congr rfl fun k _ => congrArg (X (ix2 t k) * ·) ?_)
    refine transpose_apply [1, 0] W _ (ix2 k j) (ix2 j k) fun a => ?_
    match a with
    | 0 => rfl
    | 1 => rfl
  · refine (broadcastInDim_apply _ _ _ _ (ix2 (0 : Fin 1) j) ?_).trans (broadcastInDim_apply _ _ _ _ (ix1 j) ?_)
    · intro a; match a with
      | 0 => rfl
      | 1 => rfl
    · intro a; match a with
      | 0 => rfl

/-- The reference's result. -/
def want : Vec Ideal S32768x10 .f32 :=
  select (broadcastInDim Cert.ReferenceIdeal.S32768x10 ![0, 1] Cert.ReferenceIdeal.Gen.bcast_S32768x1_S32768x10_0_1
    (broadcastInDim Cert.ReferenceIdeal.S32768x1 ![0] Cert.ReferenceIdeal.Gen.bcast_S32768_S32768x1_0
      (cmpi .eq R (broadcastInDim Cert.ReferenceIdeal.S32768 ![] Cert.ReferenceIdeal.Gen.bcast_S_S32768 (constantI Cert.ReferenceIdeal.S_ 32 0#32)))))
    (expert X W1 b1) (expert X W2 b2)

theorem want_apply (t : Fin 32768) (j : Fin 10) :
    want X R W1 W2 b1 b2 (ix2 t j) = Scalar.select (IntOp.cmpi .eq (R (ix1 t)) 0#32) (expert X W1 b1 (ix2 t j)) (expert X W2 b2 (ix2 t j)) := by
  unfold want
  show Scalar.select _ _ _ = _
  congr 1
  refine (broadcastInDim_apply _ _ _ _ (ix2 t (0 : Fin 1)) ?_).trans ((broadcastInDim_apply _ _ _ _ (ix1 t) ?_).trans ?_)
  · intro a; match a with
    | 0 => rfl
    | 1 => rfl
  · intro a; match a with
    | 0 => rfl
  · exact congrArg (IntOp.cmpi .eq (R (ix1 t))) (broadcastInDim_apply _ _ _ _ (fun a => a.elim0) fun a => a.elim0)

/-- One number of the kernel's result is the reference's. -/
theorem rowsOut_eq (z : Vec Ideal S4 .f32) (t : Fin 32768) (j : Fin 10) :
    rowsOut (rd (flat X)) (rd R) (rd (spread (weights W1 W2 b1 b2 z))) (10 * t.val + j.val) = want X R W1 W2 b1 b2 (ix2 t j) := by
  have hq : (10 * t.val + j.val) / 10 = t.val := by omega
  have hr : (10 * t.val + j.val) % 10 = j.val := by omega
  have hw : ∀ p, p < 224 → rd (spread (weights W1 W2 b1 b2 z)) (16 * p + t.val % 16) = rd (weights W1 W2 b1 b2 z) p :=
    fun p hp => rd_spread _ p _ hp (Nat.mod_lt _ (by decide))
  rw [want_apply, expert_apply, expert_apply]
  unfold rowsOut outVal
  rw [hq, hr, dot_eq_sum, dot_eq_sum]
  refine congr (congrArg₂ (Scalar.select) (congrArg (IntOp.cmpi .eq · 0#32) (rd_eq R (i := ix1 t) rfl).symm) ?_) ?_
  · refine congrArg₂ (· + ·) (Finset.sum_congr rfl fun k _ => congrArg₂ (· * ·) (rd_flat X t k) ?_) ?_
    · exact (hw _ (by omega)).trans (weights_w1 W1 W2 b1 b2 z j k)
    · exact (hw _ (by omega)).trans (weights_b1 W1 W2 b1 b2 z j)
  · refine congrArg₂ (· + ·) (Finset.sum_congr rfl fun k _ => congrArg₂ (· * ·) (rd_flat X t k) ?_) ?_
    · exact (hw _ (by omega)).trans (weights_w2 W1 W2 b1 b2 z j k)
    · exact (hw _ (by omega)).trans (weights_b2 W1 W2 b1 b2 z j)

end Equation

/-- The kernel's result is the reference's of the same arguments. -/
theorem result_eq (m : (ℓ : Loc nD τ sig) → Buf (Elt Ideal) ℓ) (d : Dev nD) :
    shapeCast S32768x10 (G (arrX m d) (arrR m d) (arrW m d)) shapeCasts_S327680_S32768x10
      = want (arg0 m d) (arg1 m d) (arg2 m d) (arg4 m d) (arg3 m d) (arg5 m d) := by
  obtain ⟨z, hz⟩ := arrW_eq m d
  rw [arrX_eq, arrR_eq, hz]
  funext i
  obtain ⟨t, j, rfl⟩ : ∃ (t : Fin 32768) (j : Fin 10), i = ix2 t j := ⟨i 0, i 1, eq_ix2 i⟩
  rw [← rowsOut_eq _ _ _ _ _ _ z t j]
  have hlt : 10 * t.val + j.val < 327680 := by omega
  refine (shapeCast_apply _ _ _ (at1 327680 (10 * t.val + j.val)) ?_).trans (congrArg (rowsOut _ _ _) (at1_val hlt))
  rw [Shape.rowMajor_val_two, Shape.rowMajor_val_one, at1_val hlt]
  show _ = t.val * 10 + j.val
  omega

end Cert.Proof.MoeIdeal

end
-- ==== Proof.lean ====
/-
  The claims of Defs.lean, put together: the kernel's run at the float words (Proof/BitsMain), its run over the
  extended reals (Proof/IdealMain), the reference's run, and the equation of the two results (Proof/Value).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.BitsMain
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel ends, with its arguments as they were and every counter at zero. -/
theorem frame_p : Cert.quiescent_Kernel := fun m ρ _ =>
  (θ_run Cert.Kernel.defs _ _).mono (fun _ h => ⟨fun c => (h.1 c).2, h.2⟩) (MoeBits.run_read (F := Bits) m ρ)

/-- So does the kernel over the extended reals. -/
theorem frame_pi : Cert.quiescent_KernelIdeal := fun m ρ _ =>
  (θ_run Cert.KernelIdeal.defs _ _).mono (fun _ h => ⟨fun c => (h.1 c).2, h.2⟩) (MoeIdeal.run_read (F := Ideal) m ρ)

/-- So does the reference, which declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The shared result is the reference's, of the kernel's arguments. -/
theorem algebraic : Cert.algebraic_KernelIdeal_ReferenceIdeal := by
  intro m ρ m' ρ' _ hagree
  refine ⟨fun c => MoeIdeal.want (MoeIdeal.arg0 m c) (MoeIdeal.arg1 m c) (MoeIdeal.arg2 m c) (MoeIdeal.arg4 m c) (MoeIdeal.arg3 m c) (MoeIdeal.arg5 m c),
    (θ_run Cert.KernelIdeal.defs _ _).mono (fun _ h c => ⟨(h.1 c).1.trans (MoeIdeal.result_eq m c), (h.1 c).2⟩) (MoeIdeal.run_read (F := Ideal) m ρ),
    (θ_run Cert.ReferenceIdeal.defs _ _).mono (fun _ h c => ⟨(h c).1.trans ?_, (h c).2⟩) (Cert.ReferenceIdeal.Value.run (F := Ideal) m' ρ')⟩
  obtain ⟨e0, e1, e2, e3, e4, e5⟩ := hagree c
  rw [e0, e1, e2, e3, e4, e5]
  rfl

theorem claim : Cert.Claim :=
  ⟨Cert.Kernel.Gen.facts, Cert.KernelIdeal.Gen.facts, Cert.ReferenceIdeal.Gen.facts, frame_p, frame_pi, frame_ri, trivial, algebraic⟩

end Cert.Proof

end
